-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def preserves_Attn_AttnIdeal : Prop :=
  IdealRules.named_const.Statement Cert.AttnIdeal.κ "slope0" .f32 0xBF8293EE#32 ((-((Real.log 2)⁻¹ * (1 * (Real.sqrt 2))⁻¹) : ℝ) : EReal)
  ∧ IdealRules.named_const.Statement Cert.AttnIdeal.κ "mask" .f32 0xF149F2CA#32 ⊥
  ∧ IdealRules.named_const.Statement Cert.AttnIdeal.κ "slope1" .f32 0xBF38AA3B#32 ((-((Real.log 2)⁻¹ * 2⁻¹) : ℝ) : EReal)
  ∧ IdealRules.named_const.Statement Cert.AttnIdeal.κ "slope2" .f32 0xBF0293EE#32 ((-((Real.log 2)⁻¹ * (2 * (Real.sqrt 2))⁻¹) : ℝ) : EReal)
  ∧ IdealRules.named_const.Statement Cert.AttnIdeal.κ "slope3" .f32 0xBEB8AA3B#32 ((-((Real.log 2)⁻¹ * 4⁻¹) : ℝ) : EReal)
  ∧ IdealRules.named_const.Statement Cert.AttnIdeal.κ "slope4" .f32 0xBE8293EE#32 ((-((Real.log 2)⁻¹ * (4 * (Real.sqrt 2))⁻¹) : ℝ) : EReal)
  ∧ IdealRules.named_const.Statement Cert.AttnIdeal.κ "slope5" .f32 0xBE38AA3B#32 ((-((Real.log 2)⁻¹ * 8⁻¹) : ℝ) : EReal)
  ∧ IdealRules.named_const.Statement Cert.AttnIdeal.κ "slope6" .f32 0xBE0293EE#32 ((-((Real.log 2)⁻¹ * (8 * (Real.sqrt 2))⁻¹) : ℝ) : EReal)
  ∧ IdealRules.named_const.Statement Cert.AttnIdeal.κ "slope7" .f32 0xBDB8AA3B#32 ((-((Real.log 2)⁻¹ * 16⁻¹) : ℝ) : EReal)
  ∧ IdealRules.named_const.Statement Cert.AttnIdeal.κ "slope8" .f32 0xBD8293EE#32 ((-((Real.log 2)⁻¹ * (16 * (Real.sqrt 2))⁻¹) : ℝ) : EReal)
  ∧ IdealRules.named_const.Statement Cert.AttnIdeal.κ "slope9" .f32 0xBD38AA3B#32 ((-((Real.log 2)⁻¹ * 32⁻¹) : ℝ) : EReal)
  ∧ IdealRules.named_const.Statement Cert.AttnIdeal.κ "slope10" .f32 0xBD0293EE#32 ((-((Real.log 2)⁻¹ * (32 * (Real.sqrt 2))⁻¹) : ℝ) : EReal)
  ∧ IdealRules.named_const.Statement Cert.AttnIdeal.κ "slope11" .f32 0xBCB8AA3B#32 ((-((Real.log 2)⁻¹ * 64⁻¹) : ℝ) : EReal)
  ∧ IdealRules.named_const.Statement Cert.AttnIdeal.κ "slope12" .f32 0xBC8293EE#32 ((-((Real.log 2)⁻¹ * (64 * (Real.sqrt 2))⁻¹) : ℝ) : EReal)
  ∧ IdealRules.named_const.Statement Cert.AttnIdeal.κ "slope13" .f32 0xBC38AA3B#32 ((-((Real.log 2)⁻¹ * 128⁻¹) : ℝ) : EReal)
  ∧ IdealRules.named_const.Statement Cert.AttnIdeal.κ "slope14" .f32 0xBC0293EE#32 ((-((Real.log 2)⁻¹ * (128 * (Real.sqrt 2))⁻¹) : ℝ) : EReal)
  ∧ IdealRules.named_const.Statement Cert.AttnIdeal.κ "slope15" .f32 0xBBB8AA3B#32 ((-((Real.log 2)⁻¹ * 256⁻¹) : ℝ) : EReal)
  ∧ IdealRules.named_const.Statement Cert.AttnIdeal.κ "qscale" .f32 0x3E38AA3B#32 (((Real.log 2)⁻¹ * 8⁻¹ : ℝ) : EReal)
  ∧ IdealRules.named_const.Statement Cert.AttnIdeal.κ "log2e" .f32 0x3FB8AA3B#32 (((Real.log 2)⁻¹ : ℝ) : EReal)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v2_0)) (v1 : (c : Dev Cert.FfnIdeal.nD) → Buf (Elt Ideal) ((c.tc : Thread Cert.FfnIdeal.nD Cert.FfnIdeal.τ).loc Cert.FfnIdeal.main_v2_1)) (v2 : (c : Dev Cert.FfnIdeal.nD) → Buf (Elt Ideal) ((c.tc : Thread Cert.FfnIdeal.nD Cert.FfnIdeal.τ).loc Cert.FfnIdeal.main_v2_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2_0) = v0 c
          ∧ r.2.mem ((c.tc : Thread Cert.FfnIdeal.nD Cert.FfnIdeal.τ).loc Cert.FfnIdeal.main_v2_1) = v1 c
          ∧ r.2.mem ((c.tc : Thread Cert.FfnIdeal.nD Cert.FfnIdeal.τ).loc Cert.FfnIdeal.main_v2_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_v39) = v1 c
          ∧ r.2.mem ((c.tc : Thread Cert.FfnRefIdeal.nD Cert.FfnRefIdeal.τ).loc Cert.FfnRefIdeal.main_v42) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v39) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v65) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v4)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v43) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hMerge : Cert.Merge.Facts) (hMergeIdeal : Cert.MergeIdeal.Facts) (hMergeRefIdeal : Cert.MergeRefIdeal.Facts) (hConv : Cert.Conv.Facts) (hConvIdeal : Cert.ConvIdeal.Facts) (hConvRefIdeal : Cert.ConvRefIdeal.Facts),
    quiescent_Attn (hAttn := hAttn)
    ∧ quiescent_AttnIdeal (hAttnIdeal := hAttnIdeal)
    ∧ quiescent_AttnRefIdeal (hAttnRefIdeal := hAttnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_Merge (hMerge := hMerge)
    ∧ quiescent_MergeIdeal (hMergeIdeal := hMergeIdeal)
    ∧ quiescent_MergeRefIdeal (hMergeRefIdeal := hMergeRefIdeal)
    ∧ quiescent_Conv (hConv := hConv)
    ∧ quiescent_ConvIdeal (hConvIdeal := hConvIdeal)
    ∧ quiescent_ConvRefIdeal (hConvRefIdeal := hConvRefIdeal)
    ∧ preserves_Attn_AttnIdeal
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_Merge_MergeIdeal
    ∧ algebraic_MergeIdeal_MergeRefIdeal (hMergeIdeal := hMergeIdeal) (hMergeRefIdeal := hMergeRefIdeal)
    ∧ preserves_Conv_ConvIdeal
    ∧ algebraic_ConvIdeal_ConvRefIdeal (hConvIdeal := hConvIdeal) (hConvRefIdeal := hConvRefIdeal)
-- ==== Attn.lean ====
abbrev S32768x2048 : Shape := ⟨2, ![32768, 2048]⟩
abbrev S2048 : Shape := ⟨1, ![2048]⟩
abbrev S2048x1280 : Shape := ⟨2, ![2048, 1280]⟩
abbrev S16 : Shape := ⟨1, ![16]⟩
abbrev S1x2048 : Shape := ⟨2, ![1, 2048]⟩
abbrev S32768x1024 : Shape := ⟨2, ![32768, 1024]⟩
abbrev S512x2048 : Shape := ⟨2, ![512, 2048]⟩
abbrev S512x1024 : Shape := ⟨2, ![512, 1024]⟩
abbrev S640x128 : Shape := ⟨2, ![640, 128]⟩
abbrev S2x16x128x256 : Shape := ⟨4, ![2, 16, 128, 256]⟩
abbrev S128x256 : Shape := ⟨2, ![128, 256]⟩
abbrev S1x1x128x256 : Shape := ⟨4, ![1, 1, 128, 256]⟩
abbrev S128x128 : Shape := ⟨2, ![128, 128]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S2048x512 : Shape := ⟨2, ![2048, 512]⟩
abbrev S128x512 : Shape := ⟨2, ![128, 512]⟩
abbrev S2048x256 : Shape := ⟨2, ![2048, 256]⟩
abbrev S256x128 : Shape := ⟨2, ![256, 128]⟩
abbrev S128x1024 : Shape := ⟨2, ![128, 1024]⟩
abbrev S1024x128 : Shape := ⟨2, ![1024, 128]⟩
abbrev S1024x256 : Shape := ⟨2, ![1024, 256]⟩
abbrev S1 : Shape := ⟨1, ![1]⟩
abbrev S512x256 : Shape := ⟨2, ![512, 256]⟩
abbrev S512x128 : Shape := ⟨2, ![512, 128]⟩

abbrev nBuf : Space → Nat
  | .hbm => 6
  | .vmem => 10
  | .smem => 1
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1280, .bf16⟩
  | .hbm, ⟨3, _⟩ => ⟨S16, .f32⟩
  | .hbm, ⟨4, _⟩ => ⟨S1x2048, .f32⟩
  | .hbm, ⟨5, _⟩ => ⟨S32768x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1280, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S640x128, .f32⟩
  | .local _ .vmem, ⟨8, _⟩ => ⟨S640x128, .f32⟩
  | .local _ .vmem, ⟨9, _⟩ => ⟨S2x16x128x256, .f32⟩
  | .local _ .smem, ⟨0, _⟩ => ⟨S16, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def k0_off1 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v212 : Index := Scalar.indexCast v109
  let c0_77 : Index := 0#32
  let c0_78 : Index := 0#32
  let c0_79 : Index := 0#32
  ![v212.toNat, 0, 0, 0]
def k0_off2 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v233 : Index := Scalar.indexCast v109
  let c1 : Index := 1#32
  let c0_84 : Index := 0#32
  let c0_85 : Index := 0#32
  ![v233.toNat, 1, 0, 0]
def k0_off3 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v254 : Index := Scalar.indexCast v109
  let c2 : Index := 2#32
  let c0_90 : Index := 0#32
  let c0_91 : Index := 0#32
  ![v254.toNat, 2, 0, 0]
def k0_off4 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v275 : Index := Scalar.indexCast v109
  let c3 : Index := 3#32
  let c0_96 : Index := 0#32
  let c0_97 : Index := 0#32
  ![v275.toNat, 3, 0, 0]
def k0_off5 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v296 : Index := Scalar.indexCast v109
  let c4 : Index := 4#32
  let c0_102 : Index := 0#32
  let c0_103 : Index := 0#32
  ![v296.toNat, 4, 0, 0]
def k0_off6 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v317 : Index := Scalar.indexCast v109
  let c5 : Index := 5#32
  let c0_108 : Index := 0#32
  let c0_109 : Index := 0#32
  ![v317.toNat, 5, 0, 0]
def k0_off7 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v338 : Index := Scalar.indexCast v109
  let c6 : Index := 6#32
  let c0_114 : Index := 0#32
  let c0_115 : Index := 0#32
  ![v338.toNat, 6, 0, 0]
def k0_off8 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v359 : Index := Scalar.indexCast v109
  let c7 : Index := 7#32
  let c0_120 : Index := 0#32
  let c0_121 : Index := 0#32
  ![v359.toNat, 7, 0, 0]
def k0_off9 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v430 : Index := Scalar.indexCast v109
  let c8 : Index := 8#32
  let c0_141 : Index := 0#32
  let c0_142 : Index := 0#32
  ![v430.toNat, 8, 0, 0]
def k0_off10 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v451 : Index := Scalar.indexCast v109
  let c9 : Index := 9#32
  let c0_147 : Index := 0#32
  let c0_148 : Index := 0#32
  ![v451.toNat, 9, 0, 0]
def k0_off11 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v472 : Index := Scalar.indexCast v109
  let c10 : Index := 10#32
  let c0_153 : Index := 0#32
  let c0_154 : Index := 0#32
  ![v472.toNat, 10, 0, 0]
def k0_off12 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v493 : Index := Scalar.indexCast v109
  let c11 : Index := 11#32
  let c0_159 : Index := 0#32
  let c0_160 : Index := 0#32
  ![v493.toNat, 11, 0, 0]
def k0_off13 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v514 : Index := Scalar.indexCast v109
  let c12 : Index := 12#32
  let c0_165 : Index := 0#32
  let c0_166 : Index := 0#32
  ![v514.toNat, 12, 0, 0]
def k0_off14 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v535 : Index := Scalar.indexCast v109
  let c13 : Index := 13#32
  let c0_171 : Index := 0#32
  let c0_172 : Index := 0#32
  ![v535.toNat, 13, 0, 0]
def k0_off15 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v556 : Index := Scalar.indexCast v109
  let c14 : Index := 14#32
  let c0_177 : Index := 0#32
  let c0_178 : Index := 0#32
  ![v556.toNat, 14, 0, 0]
def k0_off16 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v109 : BitVec 32 := Scalar.extui v10
  let v577 : Index := Scalar.indexCast v109
  let c15 : Index := 15#32
  let c0_183 : Index := 0#32
  let c0_184 : Index := 0#32
  ![v577.toNat, 15, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnIdeal.lean ====
variable {F : FTy → Type} [FloatOps F] [Named F]
def κ : String → Option EReal := fun
  | "log2e" => some (((Real.log 2)⁻¹ : ℝ) : EReal)
  | "mask" => some ⊥
  | "qscale" => some (((Real.log 2)⁻¹ * 8⁻¹ : ℝ) : EReal)
  | "slope0" => some ((-((Real.log 2)⁻¹ * (1 * (Real.sqrt 2))⁻¹) : ℝ) : EReal)
  | "slope1" => some ((-((Real.log 2)⁻¹ * 2⁻¹) : ℝ) : EReal)
  | "slope10" => some ((-((Real.log 2)⁻¹ * (32 * (Real.sqrt 2))⁻¹) : ℝ) : EReal)
  | "slope11" => some ((-((Real.log 2)⁻¹ * 64⁻¹) : ℝ) : EReal)
  | "slope12" => some ((-((Real.log 2)⁻¹ * (64 * (Real.sqrt 2))⁻¹) : ℝ) : EReal)
  | "slope13" => some ((-((Real.log 2)⁻¹ * 128⁻¹) : ℝ) : EReal)
  | "slope14" => some ((-((Real.log 2)⁻¹ * (128 * (Real.sqrt 2))⁻¹) : ℝ) : EReal)
  | "slope15" => some ((-((Real.log 2)⁻¹ * 256⁻¹) : ℝ) : EReal)
  | "slope2" => some ((-((Real.log 2)⁻¹ * (2 * (Real.sqrt 2))⁻¹) : ℝ) : EReal)
  | "slope3" => some ((-((Real.log 2)⁻¹ * 4⁻¹) : ℝ) : EReal)
  | "slope4" => some ((-((Real.log 2)⁻¹ * (4 * (Real.sqrt 2))⁻¹) : ℝ) : EReal)
  | "slope5" => some ((-((Real.log 2)⁻¹ * 8⁻¹) : ℝ) : EReal)
  | "slope6" => some ((-((Real.log 2)⁻¹ * (8 * (Real.sqrt 2))⁻¹) : ℝ) : EReal)
  | "slope7" => some ((-((Real.log 2)⁻¹ * 16⁻¹) : ℝ) : EReal)
  | "slope8" => some ((-((Real.log 2)⁻¹ * (16 * (Real.sqrt 2))⁻¹) : ℝ) : EReal)
  | "slope9" => some ((-((Real.log 2)⁻¹ * 32⁻¹) : ℝ) : EReal)
  | _ => none
-- ==== AttnRefIdeal.lean ====
abbrev S32768x2048 : Shape := ⟨2, ![32768, 2048]⟩
abbrev S2048 : Shape := ⟨1, ![2048]⟩
abbrev S2048x1280 : Shape := ⟨2, ![2048, 1280]⟩
abbrev S16 : Shape := ⟨1, ![16]⟩
abbrev S2x16384x2048 : Shape := ⟨3, ![2, 16384, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x1280 : Shape := ⟨3, ![2, 16384, 1280]⟩
abbrev S2x16384x1024 : Shape := ⟨3, ![2, 16384, 1024]⟩
abbrev S2x16384x128 : Shape := ⟨3, ![2, 16384, 128]⟩
abbrev S2x128x128x2x8x64 : Shape := ⟨6, ![2, 128, 128, 2, 8, 64]⟩
abbrev S2x128x128x2x64 : Shape := ⟨5, ![2, 128, 128, 2, 64]⟩
abbrev S2x1x128x2x64 : Shape := ⟨5, ![2, 1, 128, 2, 64]⟩
abbrev S2x127x128x2x64 : Shape := ⟨5, ![2, 127, 128, 2, 64]⟩
abbrev S2x128x256x2x64 : Shape := ⟨5, ![2, 128, 256, 2, 64]⟩
abbrev S2x128x2x256x128x8 : Shape := ⟨6, ![2, 128, 2, 256, 128, 8]⟩
abbrev S2x128x2x8x128x256 : Shape := ⟨6, ![2, 128, 2, 8, 128, 256]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S1x128x256 : Shape := ⟨3, ![1, 128, 256]⟩
abbrev S128x1x256 : Shape := ⟨3, ![128, 1, 256]⟩
abbrev S128x128x256 : Shape := ⟨3, ![128, 128, 256]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x1x2x8x128x256 : Shape := ⟨6, ![1, 1, 2, 8, 128, 256]⟩
abbrev S1x128x1x1x128x256 : Shape := ⟨6, ![1, 128, 1, 1, 128, 256]⟩
abbrev S2x8x1 : Shape := ⟨3, ![2, 8, 1]⟩
abbrev S2x128x2x8x128 : Shape := ⟨5, ![2, 128, 2, 8, 128]⟩
abbrev S1x1x2x8x1 : Shape := ⟨5, ![1, 1, 2, 8, 1]⟩
abbrev S2x128x2x8x128x1 : Shape := ⟨6, ![2, 128, 2, 8, 128, 1]⟩
abbrev S2x128x2x64x8x128 : Shape := ⟨6, ![2, 128, 2, 64, 8, 128]⟩
abbrev S32768x1024 : Shape := ⟨2, ![32768, 1024]⟩

abbrev nBuf : Space → Nat
  | .hbm => 138
  | .vmem => 0
  | .smem => 0
  | _ => 0

abbrev hbmTy0_0 (i : Nat) : BufTy := match i % 128 with
  | 0 => ⟨S32768x2048, .f32⟩
  | 1 => ⟨S2048, .f32⟩
  | 2 => ⟨S2048x1280, .bf16⟩
  | 3 => ⟨S16, .f32⟩
  | 4 => ⟨S2x16384x2048, .f32⟩
  | 5 => ⟨S2x16384x2048, .f32⟩
  | 6 => ⟨S_, .f32⟩
  | 7 => ⟨S2x16384, .f32⟩
  | 8 => ⟨S2x16384x1, .f32⟩
  | 9 => ⟨S_, .f32⟩
  | 10 => ⟨S2x16384x1, .f32⟩
  | 11 => ⟨S2x16384x1, .f32⟩
  | 12 => ⟨S_, .f32⟩
  | 13 => ⟨S2x16384x1, .f32⟩
  | 14 => ⟨S2x16384x1, .f32⟩
  | 15 => ⟨S2x16384x1, .f32⟩
  | 16 => ⟨S2x16384x2048, .f32⟩
  | 17 => ⟨S2x16384x2048, .f32⟩
  | 18 => ⟨S1x1x2048, .f32⟩
  | 19 => ⟨S2x16384x2048, .f32⟩
  | 20 => ⟨S2x16384x2048, .f32⟩
  | 21 => ⟨S2048x1280, .f32⟩
  | 22 => ⟨S2x16384x1280, .f32⟩
  | 23 => ⟨S2x16384x1024, .f32⟩
  | 24 => ⟨S2x16384x128, .f32⟩
  | 25 => ⟨S2x16384x128, .f32⟩
  | 26 => ⟨S2x128x128x2x8x64, .f32⟩
  | 27 => ⟨S2x128x128x2x64, .f32⟩
  | 28 => ⟨S2x128x128x2x64, .f32⟩
  | 29 => ⟨S2x1x128x2x64, .f32⟩
  | 30 => ⟨S_, .f32⟩
  | 31 => ⟨S2x1x128x2x64, .f32⟩
  | 32 => ⟨S2x127x128x2x64, .f32⟩
  | 33 => ⟨S2x128x128x2x64, .f32⟩
  | 34 => ⟨S2x128x256x2x64, .f32⟩
  | 35 => ⟨S2x1x128x2x64, .f32⟩
  | 36 => ⟨S_, .f32⟩
  | 37 => ⟨S2x1x128x2x64, .f32⟩
  | 38 => ⟨S2x127x128x2x64, .f32⟩
  | 39 => ⟨S2x128x128x2x64, .f32⟩
  | 40 => ⟨S2x128x256x2x64, .f32⟩
  | 41 => ⟨S2x128x2x256x128x8, .f32⟩
  | 42 => ⟨S2x128x2x8x128x256, .f32⟩
  | 43 => ⟨S_, .f32⟩
  | 44 => ⟨S2x128x2x8x128x256, .f32⟩
  | 45 => ⟨S2x128x2x8x128x256, .f32⟩
  | 46 => ⟨S128, .i32⟩
  | 47 => ⟨S256, .i32⟩
  | 48 => ⟨S128x1, .i32⟩
  | 49 => ⟨S_, .i32⟩
  | 50 => ⟨S128x1, .i32⟩
  | 51 => ⟨S128x1, .i32⟩
  | 52 => ⟨S1x256, .i32⟩
  | 53 => ⟨S128x256, .i32⟩
  | 54 => ⟨S128x256, .i32⟩
  | 55 => ⟨S128x256, .i32⟩
  | 56 => ⟨S_, .i32⟩
  | 57 => ⟨S128x256, .i32⟩
  | 58 => ⟨S128x256, .i1⟩
  | 59 => ⟨S_, .i32⟩
  | 60 => ⟨S128x256, .i32⟩
  | 61 => ⟨S128x256, .i1⟩
  | 62 => ⟨S128x256, .i1⟩
  | 63 => ⟨S128, .i32⟩
  | 64 => ⟨S128x1, .i32⟩
  | 65 => ⟨S_, .i32⟩
  | 66 => ⟨S128x1, .i32⟩
  | 67 => ⟨S128x1, .i32⟩
  | 68 => ⟨S_, .i32⟩
  | 69 => ⟨S128x1, .i32⟩
  | 70 => ⟨S128x1, .i32⟩
  | 71 => ⟨S1x256, .i32⟩
  | 72 => ⟨S128x256, .i32⟩
  | 73 => ⟨S128x256, .i32⟩
  | 74 => ⟨S128x256, .i32⟩
  | 75 => ⟨S1x128x256, .i1⟩
  | 76 => ⟨S_, .i32⟩
  | 77 => ⟨S128x256, .i32⟩
  | 78 => ⟨S128x256, .i1⟩
  | 79 => ⟨S128x1x256, .i1⟩
  | 80 => ⟨S128x128x256, .i1⟩
  | 81 => ⟨S128x128x256, .i1⟩
  | 82 => ⟨S128x128x256, .i1⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S16, .f32⟩
  | 97 => ⟨S2x8, .f32⟩
  | 98 => ⟨S2x8x1x1, .f32⟩
  | 99 => ⟨S128x256, .f32⟩
  | 100 => ⟨S1x1x128x256, .f32⟩
  | 101 => ⟨S2x8x128x256, .f32⟩
  | 102 => ⟨S2x8x128x256, .f32⟩
  | 103 => ⟨S2x8x128x256, .f32⟩
  | 104 => ⟨S1x1x2x8x128x256, .f32⟩
  | 105 => ⟨S2x128x2x8x128x256, .f32⟩
  | 106 => ⟨S2x128x2x8x128x256, .f32⟩
  | 107 => ⟨S1x128x1x1x128x256, .i1⟩
  | 108 => ⟨S_, .f32⟩
  | 109 => ⟨S_, .f32⟩
  | 110 => ⟨S2x128x2x8x128x256, .i1⟩
  | 111 => ⟨S2x128x2x8x128x256, .f32⟩
  | 112 => ⟨S2x128x2x8x128x256, .f32⟩
  | 113 => ⟨S2x8, .f32⟩
  | 114 => ⟨S2x8x1, .f32⟩
  | 115 => ⟨S_, .f32⟩
  | 116 => ⟨S2x128x2x8x128, .f32⟩
  | 117 => ⟨S1x1x2x8x1, .f32⟩
  | 118 => ⟨S2x128x2x8x128, .f32⟩
  | 119 => ⟨S2x128x2x8x128, .f32⟩
  | 120 => ⟨S2x128x2x8x128x1, .f32⟩
  | 121 => ⟨S2x128x2x8x128x256, .f32⟩
  | 122 => ⟨S2x128x2x8x128x256, .f32⟩
  | 123 => ⟨S2x128x2x8x128x256, .f32⟩
  | 124 => ⟨S_, .f32⟩
  | 125 => ⟨S2x128x2x8x128, .f32⟩
  | 126 => ⟨S1x1x2x8x1, .f32⟩
  | 127 => ⟨S2x128x2x8x128, .f32⟩
  | _ => ⟨S32768x2048, .f32⟩

abbrev hbmTy0_1 (i : Nat) : BufTy := match i % 128 with
  | 0 => ⟨S2x128x2x8x128, .f32⟩
  | 1 => ⟨S2x128x2x8x128, .f32⟩
  | 2 => ⟨S2x128x2x8x128, .f32⟩
  | 3 => ⟨S2x128x2x8x128x1, .f32⟩
  | 4 => ⟨S2x128x2x8x128x256, .f32⟩
  | 5 => ⟨S2x128x2x8x128x256, .f32⟩
  | 6 => ⟨S2x128x2x64x8x128, .f32⟩
  | 7 => ⟨S2x128x128x2x8x64, .f32⟩
  | 8 => ⟨S32768x1024, .f32⟩
  | 9 => ⟨S32768x1024, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_5 : Ref sig .tc := ⟨.hbm, 56, rfl⟩
abbrev main_v45 : Ref sig .tc := ⟨.hbm, 57, rfl⟩
abbrev main_v46 : Ref sig .tc := ⟨.hbm, 58, rfl⟩
abbrev main_c_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_7 : Ref sig .tc := ⟨.hbm, 65, rfl⟩
abbrev main_v52 : Ref sig .tc := ⟨.hbm, 66, rfl⟩
abbrev main_v53 : Ref sig .tc := ⟨.hbm, 67, rfl⟩
abbrev main_c_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_10 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_cst_12 : Ref sig .tc := ⟨.hbm, 90, rfl⟩
abbrev main_v72 : Ref sig .tc := ⟨.hbm, 91, rfl⟩
abbrev main_v73 : Ref sig .tc := ⟨.hbm, 92, rfl⟩
abbrev main_cst_13 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_14 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_15 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_16 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩

abbrev nD : Nat := 1
abbrev τ : Topo := Topo.v7x

variable {F : FTy → Type} [FloatOps F]

def κ : String → Option EReal := fun
  | "mask" => some ⊥
  | _ => none
-- ==== Ffn.lean ====
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S2x2048x11264 : Shape := ⟨3, ![2, 2048, 11264]⟩
abbrev S2x5632x2048 : Shape := ⟨3, ![2, 5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1x64x1024 : Shape := ⟨3, ![1, 64, 1024]⟩
abbrev S1x16x2048 : Shape := ⟨3, ![1, 16, 2048]⟩
abbrev S64x1024 : Shape := ⟨2, ![64, 1024]⟩
abbrev S16x2048 : Shape := ⟨2, ![16, 2048]⟩
abbrev S512 : Shape := ⟨1, ![512]⟩
abbrev S512x1 : Shape := ⟨2, ![512, 1]⟩
abbrev S512x512 : Shape := ⟨2, ![512, 512]⟩

abbrev nBuf : Space → Nat
  | .hbm => 12
  | .vmem => 21
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .bf16⟩
  | .hbm, ⟨3, _⟩ => ⟨S5632x2048, .bf16⟩
  | .hbm, ⟨4, _⟩ => ⟨S2048, .f32⟩
  | .hbm, ⟨5, _⟩ => ⟨S2x2048x11264, .f32⟩
  | .hbm, ⟨6, _⟩ => ⟨S2x5632x2048, .f32⟩
  | .hbm, ⟨7, _⟩ => ⟨S1x2048, .f32⟩
  | .hbm, ⟨8, _⟩ => ⟨S1x2048, .f32⟩
  | .hbm, ⟨9, _⟩ => ⟨S32768x2048, .f32⟩
  | .hbm, ⟨10, _⟩ => ⟨S2048x11264, .bf16⟩
  | .hbm, ⟨11, _⟩ => ⟨S5632x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x64x1024, .f32⟩
  | .local _ .vmem, ⟨11, _⟩ => ⟨S1x64x1024, .f32⟩
  | .local _ .vmem, ⟨12, _⟩ => ⟨S1x16x2048, .f32⟩
  | .local _ .vmem, ⟨13, _⟩ => ⟨S1x16x2048, .f32⟩
  | .local _ .vmem, ⟨14, _⟩ => ⟨S1024x2048, .f32⟩
  | .local _ .vmem, ⟨15, _⟩ => ⟨S1024x2048, .f32⟩
  | .local _ .vmem, ⟨16, _⟩ => ⟨S64x1024, .bf16⟩
  | .local _ .vmem, ⟨17, _⟩ => ⟨S64x1024, .bf16⟩
  | .local _ .vmem, ⟨18, _⟩ => ⟨S16x2048, .bf16⟩
  | .local _ .vmem, ⟨19, _⟩ => ⟨S16x2048, .bf16⟩
  | .local _ .vmem, ⟨20, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnRefIdeal.lean ====
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S2x2048x11264 : Shape := ⟨3, ![2, 2048, 11264]⟩
abbrev S2x5632x2048 : Shape := ⟨3, ![2, 5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x11264 : Shape := ⟨2, ![32768, 11264]⟩
abbrev S32768x5632 : Shape := ⟨2, ![32768, 5632]⟩
abbrev S1x2048x11264 : Shape := ⟨3, ![1, 2048, 11264]⟩
abbrev S1x5632x2048 : Shape := ⟨3, ![1, 5632, 2048]⟩

abbrev nBuf : Space → Nat
  | .hbm => 65
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .bf16⟩
  | .hbm, ⟨3, _⟩ => ⟨S5632x2048, .bf16⟩
  | .hbm, ⟨4, _⟩ => ⟨S2048, .f32⟩
  | .hbm, ⟨5, _⟩ => ⟨S2x2048x11264, .f32⟩
  | .hbm, ⟨6, _⟩ => ⟨S2x5632x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S2048x11264, .f32⟩
  | .hbm, ⟨24, _⟩ => ⟨S32768x11264, .f32⟩
  | .hbm, ⟨25, _⟩ => ⟨S32768x5632, .f32⟩
  | .hbm, ⟨26, _⟩ => ⟨S32768x5632, .f32⟩
  | .hbm, ⟨27, _⟩ => ⟨S32768x5632, .f32⟩
  | .hbm, ⟨28, _⟩ => ⟨S32768x5632, .f32⟩
  | .hbm, ⟨29, _⟩ => ⟨S_, .f32⟩
  | .hbm, ⟨30, _⟩ => ⟨S32768x5632, .f32⟩
  | .hbm, ⟨31, _⟩ => ⟨S32768x5632, .f32⟩
  | .hbm, ⟨32, _⟩ => ⟨S_, .f32⟩
  | .hbm, ⟨33, _⟩ => ⟨S32768x5632, .f32⟩
  | .hbm, ⟨34, _⟩ => ⟨S32768x5632, .f32⟩
  | .hbm, ⟨35, _⟩ => ⟨S32768x5632, .f32⟩
  | .hbm, ⟨36, _⟩ => ⟨S32768x5632, .f32⟩
  | .hbm, ⟨37, _⟩ => ⟨S5632x2048, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x2048, .f32⟩
  | .hbm, ⟨51, _⟩ => ⟨S32768x2048, .f32⟩
  | .hbm, ⟨52, _⟩ => ⟨S1x2048, .f32⟩
  | .hbm, ⟨53, _⟩ => ⟨S32768x2048, .f32⟩
  | .hbm, ⟨54, _⟩ => ⟨S32768x2048, .f32⟩
  | .hbm, ⟨55, _⟩ => ⟨S_, .f32⟩
  | .hbm, ⟨56, _⟩ => ⟨S32768x2048, .f32⟩
  | .hbm, ⟨57, _⟩ => ⟨S32768x2048, .f32⟩
  | .hbm, ⟨58, _⟩ => ⟨S32768x2048, .f32⟩
  | .hbm, ⟨59, _⟩ => ⟨S1x2048x11264, .f32⟩
  | .hbm, ⟨60, _⟩ => ⟨S2048x11264, .f32⟩
  | .hbm, ⟨61, _⟩ => ⟨S2048x11264, .bf16⟩
  | .hbm, ⟨62, _⟩ => ⟨S1x5632x2048, .f32⟩
  | .hbm, ⟨63, _⟩ => ⟨S5632x2048, .f32⟩
  | .hbm, ⟨64, _⟩ => ⟨S5632x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Ple.lean ====
abbrev S32768x2048 : Shape := ⟨2, ![32768, 2048]⟩
abbrev S2x32768x256 : Shape := ⟨3, ![2, 32768, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S1024x2048 : Shape := ⟨2, ![1024, 2048]⟩
abbrev S1x1024x256 : Shape := ⟨3, ![1, 1024, 256]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩
abbrev S2048x512 : Shape := ⟨2, ![2048, 512]⟩
abbrev S256x512 : Shape := ⟨2, ![256, 512]⟩

abbrev nBuf : Space → Nat
  | .hbm => 9
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2x32768x256, .f32⟩
  | .hbm, ⟨2, _⟩ => ⟨S2048, .f32⟩
  | .hbm, ⟨3, _⟩ => ⟨S2048x2048, .bf16⟩
  | .hbm, ⟨4, _⟩ => ⟨S256x2048, .bf16⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x1024x256, .f32⟩
  | .local _ .vmem, ⟨3, _⟩ => ⟨S1x1024x256, .f32⟩
  | .local _ .vmem, ⟨4, _⟩ => ⟨S1x2048, .f32⟩
  | .local _ .vmem, ⟨5, _⟩ => ⟨S2048x2048, .bf16⟩
  | .local _ .vmem, ⟨6, _⟩ => ⟨S256x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S32768x2048 : Shape := ⟨2, ![32768, 2048]⟩
abbrev S2x32768x256 : Shape := ⟨3, ![2, 32768, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S1x32768x256 : Shape := ⟨3, ![1, 32768, 256]⟩
abbrev S32768x256 : Shape := ⟨2, ![32768, 256]⟩

abbrev nBuf : Space → Nat
  | .hbm => 54
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x32768x256, .f32⟩
  | .hbm, ⟨2, _⟩ => ⟨S2048, .f32⟩
  | .hbm, ⟨3, _⟩ => ⟨S2048x2048, .bf16⟩
  | .hbm, ⟨4, _⟩ => ⟨S256x2048, .bf16⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S2048x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x2048, .f32⟩
  | .hbm, ⟨31, _⟩ => ⟨S32768x2048, .f32⟩
  | .hbm, ⟨32, _⟩ => ⟨S1x32768x256, .f32⟩
  | .hbm, ⟨33, _⟩ => ⟨S32768x256, .f32⟩
  | .hbm, ⟨34, _⟩ => ⟨S256x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x2048, .f32⟩
  | .hbm, ⟨49, _⟩ => ⟨S32768x2048, .f32⟩
  | .hbm, ⟨50, _⟩ => ⟨S1x2048, .f32⟩
  | .hbm, ⟨51, _⟩ => ⟨S32768x2048, .f32⟩
  | .hbm, ⟨52, _⟩ => ⟨S32768x2048, .f32⟩
  | .hbm, ⟨53, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Merge.lean ====
abbrev S32768x2048 : Shape := ⟨2, ![32768, 2048]⟩
abbrev S2048 : Shape := ⟨1, ![2048]⟩
abbrev S2048x6144 : Shape := ⟨2, ![2048, 6144]⟩
abbrev S32768x512 : Shape := ⟨2, ![32768, 512]⟩
abbrev S32768x1024 : Shape := ⟨2, ![32768, 1024]⟩
abbrev S512x2048 : Shape := ⟨2, ![512, 2048]⟩
abbrev S1024x2048 : Shape := ⟨2, ![1024, 2048]⟩
abbrev S2048x2048 : Shape := ⟨2, ![2048, 2048]⟩
abbrev S1x2048 : Shape := ⟨2, ![1, 2048]⟩
abbrev S2048x512 : Shape := ⟨2, ![2048, 512]⟩
abbrev S512x512 : Shape := ⟨2, ![512, 512]⟩
abbrev S512x1024 : Shape := ⟨2, ![512, 1024]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S256x1024 : Shape := ⟨2, ![256, 1024]⟩

abbrev nBuf : Space → Nat
  | .hbm => 14
  | .vmem => 27
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x6144, .bf16⟩
  | .hbm, ⟨3, _⟩ => ⟨S32768x512, .bf16⟩
  | .hbm, ⟨4, _⟩ => ⟨S32768x1024, .bf16⟩
  | .hbm, ⟨5, _⟩ => ⟨S32768x512, .bf16⟩
  | .hbm, ⟨6, _⟩ => ⟨S512x2048, .bf16⟩
  | .hbm, ⟨7, _⟩ => ⟨S1024x2048, .bf16⟩
  | .hbm, ⟨8, _⟩ => ⟨S512x2048, .bf16⟩
  | .hbm, ⟨9, _⟩ => ⟨S2048x2048, .bf16⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x1024, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S1024x512, .bf16⟩
  | .local _ .vmem, ⟨18, _⟩ => ⟨S1024x512, .bf16⟩
  | .local _ .vmem, ⟨19, _⟩ => ⟨S512x512, .bf16⟩
  | .local _ .vmem, ⟨20, _⟩ => ⟨S512x512, .bf16⟩
  | .local _ .vmem, ⟨21, _⟩ => ⟨S512x2048, .bf16⟩
  | .local _ .vmem, ⟨22, _⟩ => ⟨S512x2048, .bf16⟩
  | .local _ .vmem, ⟨23, _⟩ => ⟨S1x2048, .f32⟩
  | .local _ .vmem, ⟨24, _⟩ => ⟨S512x2048, .f32⟩
  | .local _ .vmem, ⟨25, _⟩ => ⟨S512x2048, .f32⟩
  | .local _ .vmem, ⟨26, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![64, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== MergeRefIdeal.lean ====
abbrev S32768x2048 : Shape := ⟨2, ![32768, 2048]⟩
abbrev S2048 : Shape := ⟨1, ![2048]⟩
abbrev S2048x6144 : Shape := ⟨2, ![2048, 6144]⟩
abbrev S32768x512 : Shape := ⟨2, ![32768, 512]⟩
abbrev S32768x1024 : Shape := ⟨2, ![32768, 1024]⟩
abbrev S512x2048 : Shape := ⟨2, ![512, 2048]⟩
abbrev S1024x2048 : Shape := ⟨2, ![1024, 2048]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x6144 : Shape := ⟨2, ![32768, 6144]⟩

abbrev nBuf : Space → Nat
  | .hbm => 89
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x6144, .bf16⟩
  | .hbm, ⟨3, _⟩ => ⟨S32768x512, .bf16⟩
  | .hbm, ⟨4, _⟩ => ⟨S32768x1024, .bf16⟩
  | .hbm, ⟨5, _⟩ => ⟨S32768x512, .bf16⟩
  | .hbm, ⟨6, _⟩ => ⟨S512x2048, .bf16⟩
  | .hbm, ⟨7, _⟩ => ⟨S1024x2048, .bf16⟩
  | .hbm, ⟨8, _⟩ => ⟨S512x2048, .bf16⟩
  | .hbm, ⟨9, _⟩ => ⟨S2048x2048, .bf16⟩
  | .hbm, ⟨10, _⟩ => ⟨S2048, .f32⟩
  | .hbm, ⟨11, _⟩ => ⟨S32768x2048, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x2048, .f32⟩
  | .hbm, ⟨23, _⟩ => ⟨S32768x2048, .f32⟩
  | .hbm, ⟨24, _⟩ => ⟨S1x2048, .f32⟩
  | .hbm, ⟨25, _⟩ => ⟨S32768x2048, .f32⟩
  | .hbm, ⟨26, _⟩ => ⟨S32768x2048, .f32⟩
  | .hbm, ⟨27, _⟩ => ⟨S2048x6144, .f32⟩
  | .hbm, ⟨28, _⟩ => ⟨S32768x6144, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x512, .f32⟩
  | .hbm, ⟨33, _⟩ => ⟨S512x2048, .f32⟩
  | .hbm, ⟨34, _⟩ => ⟨S32768x2048, .f32⟩
  | .hbm, ⟨35, _⟩ => ⟨S32768x1024, .f32⟩
  | .hbm, ⟨36, _⟩ => ⟨S1024x2048, .f32⟩
  | .hbm, ⟨37, _⟩ => ⟨S32768x2048, .f32⟩
  | .hbm, ⟨38, _⟩ => ⟨S32768x512, .f32⟩
  | .hbm, ⟨39, _⟩ => ⟨S512x2048, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768x2048, .f32⟩
  | .hbm, ⟨45, _⟩ => ⟨S32768x2048, .f32⟩
  | .hbm, ⟨46, _⟩ => ⟨S_, .f32⟩
  | .hbm, ⟨47, _⟩ => ⟨S32768x2048, .f32⟩
  | .hbm, ⟨48, _⟩ => ⟨S32768x2048, .f32⟩
  | .hbm, ⟨49, _⟩ => ⟨S32768x2048, .f32⟩
  | .hbm, ⟨50, _⟩ => ⟨S32768x2048, .f32⟩
  | .hbm, ⟨51, _⟩ => ⟨S32768x2048, .f32⟩
  | .hbm, ⟨52, _⟩ => ⟨S_, .f32⟩
  | .hbm, ⟨53, _⟩ => ⟨S32768x2048, .f32⟩
  | .hbm, ⟨54, _⟩ => ⟨S32768x2048, .f32⟩
  | .hbm, ⟨55, _⟩ => ⟨S_, .f32⟩
  | .hbm, ⟨56, _⟩ => ⟨S32768x2048, .f32⟩
  | .hbm, ⟨57, _⟩ => ⟨S32768x2048, .f32⟩
  | .hbm, ⟨58, _⟩ => ⟨S32768x2048, .f32⟩
  | .hbm, ⟨59, _⟩ => ⟨S32768x2048, .f32⟩
  | .hbm, ⟨60, _⟩ => ⟨S32768x2048, .f32⟩
  | .hbm, ⟨61, _⟩ => ⟨S32768x2048, .f32⟩
  | .hbm, ⟨62, _⟩ => ⟨S_, .f32⟩
  | .hbm, ⟨63, _⟩ => ⟨S32768x2048, .f32⟩
  | .hbm, ⟨64, _⟩ => ⟨S32768x2048, .f32⟩
  | .hbm, ⟨65, _⟩ => ⟨S_, .f32⟩
  | .hbm, ⟨66, _⟩ => ⟨S32768x2048, .f32⟩
  | .hbm, ⟨67, _⟩ => ⟨S32768x2048, .f32⟩
  | .hbm, ⟨68, _⟩ => ⟨S32768x2048, .f32⟩
  | .hbm, ⟨69, _⟩ => ⟨S32768x2048, .f32⟩
  | .hbm, ⟨70, _⟩ => ⟨S2048x2048, .f32⟩
  | .hbm, ⟨71, _⟩ => ⟨S32768x2048, .f32⟩
  | .hbm, ⟨72, _⟩ => ⟨S32768x2048, .f32⟩
  | .hbm, ⟨73, _⟩ => ⟨S_, .f32⟩
  | .hbm, ⟨74, _⟩ => ⟨S32768, .f32⟩
  | .hbm, ⟨75, _⟩ => ⟨S32768x1, .f32⟩
  | .hbm, ⟨76, _⟩ => ⟨S_, .f32⟩
  | .hbm, ⟨77, _⟩ => ⟨S32768x1, .f32⟩
  | .hbm, ⟨78, _⟩ => ⟨S32768x1, .f32⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S32768x1, .f32⟩
  | .hbm, ⟨83, _⟩ => ⟨S32768x2048, .f32⟩
  | .hbm, ⟨84, _⟩ => ⟨S32768x2048, .f32⟩
  | .hbm, ⟨85, _⟩ => ⟨S1x2048, .f32⟩
  | .hbm, ⟨86, _⟩ => ⟨S32768x2048, .f32⟩
  | .hbm, ⟨87, _⟩ => ⟨S32768x2048, .f32⟩
  | .hbm, ⟨88, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Conv.lean ====
abbrev S32768x2048 : Shape := ⟨2, ![32768, 2048]⟩
abbrev S2048 : Shape := ⟨1, ![2048]⟩
abbrev S2048x1536 : Shape := ⟨2, ![2048, 1536]⟩
abbrev S3x512 : Shape := ⟨2, ![3, 512]⟩
abbrev S_ : Shape := ⟨0, ![]⟩
abbrev S8x512 : Shape := ⟨2, ![8, 512]⟩
abbrev S1 : Shape := ⟨1, ![1]⟩
abbrev S1x2048 : Shape := ⟨2, ![1, 2048]⟩
abbrev S32768x512 : Shape := ⟨2, ![32768, 512]⟩
abbrev S512x2048 : Shape := ⟨2, ![512, 2048]⟩
abbrev S512x512 : Shape := ⟨2, ![512, 512]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S256x1536 : Shape := ⟨2, ![256, 1536]⟩
abbrev S1x512 : Shape := ⟨2, ![1, 512]⟩

abbrev nBuf : Space → Nat
  | .hbm => 11
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1536, .bf16⟩
  | .hbm, ⟨3, _⟩ => ⟨S3x512, .f32⟩
  | .hbm, ⟨4, _⟩ => ⟨S_, .f32⟩
  | .hbm, ⟨5, _⟩ => ⟨S8x512, .f32⟩
  | .hbm, ⟨6, _⟩ => ⟨S_, .i32⟩
  | .hbm, ⟨7, _⟩ => ⟨S1, .i32⟩
  | .hbm, ⟨8, _⟩ => ⟨S8x512, .f32⟩
  | .hbm, ⟨9, _⟩ => ⟨S1x2048, .f32⟩
  | .hbm, ⟨10, _⟩ => ⟨S32768x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S8x512, .f32⟩
  | .local _ .vmem, ⟨5, _⟩ => ⟨S512x512, .bf16⟩
  | .local _ .vmem, ⟨6, _⟩ => ⟨S512x512, .bf16⟩
  | .local _ .vmem, ⟨7, _⟩ => ⟨S8x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvRefIdeal.lean ====
abbrev S32768x2048 : Shape := ⟨2, ![32768, 2048]⟩
abbrev S2048 : Shape := ⟨1, ![2048]⟩
abbrev S2048x1536 : Shape := ⟨2, ![2048, 1536]⟩
abbrev S3x512 : Shape := ⟨2, ![3, 512]⟩
abbrev S2x16384x2048 : Shape := ⟨3, ![2, 16384, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x1536 : Shape := ⟨3, ![2, 16384, 1536]⟩
abbrev S2x16384x512 : Shape := ⟨3, ![2, 16384, 512]⟩
abbrev S1x512 : Shape := ⟨2, ![1, 512]⟩
abbrev S512 : Shape := ⟨1, ![512]⟩
abbrev S1x1x512 : Shape := ⟨3, ![1, 1, 512]⟩
abbrev S2x16385x512 : Shape := ⟨3, ![2, 16385, 512]⟩
abbrev S2x16386x512 : Shape := ⟨3, ![2, 16386, 512]⟩
abbrev S32768x512 : Shape := ⟨2, ![32768, 512]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1536, .bf16⟩
  | .hbm, ⟨3, _⟩ => ⟨S3x512, .f32⟩
  | .hbm, ⟨4, _⟩ => ⟨S2x16384x2048, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S2048x1536, .f32⟩
  | .hbm, ⟨22, _⟩ => ⟨S2x16384x1536, .f32⟩
  | .hbm, ⟨23, _⟩ => ⟨S2x16384x512, .f32⟩
  | .hbm, ⟨24, _⟩ => ⟨S2x16384x512, .f32⟩
  | .hbm, ⟨25, _⟩ => ⟨S2x16384x512, .f32⟩
  | .hbm, ⟨26, _⟩ => ⟨S2x16384x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S2x16384x512, .f32⟩
  | .hbm, ⟨31, _⟩ => ⟨S2x16384x512, .f32⟩
  | .hbm, ⟨32, _⟩ => ⟨S1x512, .f32⟩
  | .hbm, ⟨33, _⟩ => ⟨S512, .f32⟩
  | .hbm, ⟨34, _⟩ => ⟨S_, .i32⟩
  | .hbm, ⟨35, _⟩ => ⟨S_, .f32⟩
  | .hbm, ⟨36, _⟩ => ⟨S2x16385x512, .f32⟩
  | .hbm, ⟨37, _⟩ => ⟨S2x16384x512, .f32⟩
  | .hbm, ⟨38, _⟩ => ⟨S1x1x512, .f32⟩
  | .hbm, ⟨39, _⟩ => ⟨S2x16384x512, .f32⟩
  | .hbm, ⟨40, _⟩ => ⟨S2x16384x512, .f32⟩
  | .hbm, ⟨41, _⟩ => ⟨S2x16384x512, .f32⟩
  | .hbm, ⟨42, _⟩ => ⟨S1x512, .f32⟩
  | .hbm, ⟨43, _⟩ => ⟨S512, .f32⟩
  | .hbm, ⟨44, _⟩ => ⟨S_, .i32⟩
  | .hbm, ⟨45, _⟩ => ⟨S_, .f32⟩
  | .hbm, ⟨46, _⟩ => ⟨S2x16386x512, .f32⟩
  | .hbm, ⟨47, _⟩ => ⟨S2x16384x512, .f32⟩
  | .hbm, ⟨48, _⟩ => ⟨S1x1x512, .f32⟩
  | .hbm, ⟨49, _⟩ => ⟨S2x16384x512, .f32⟩
  | .hbm, ⟨50, _⟩ => ⟨S2x16384x512, .f32⟩
  | .hbm, ⟨51, _⟩ => ⟨S2x16384x512, .f32⟩
  | .hbm, ⟨52, _⟩ => ⟨S2x16384x512, .f32⟩
  | .hbm, ⟨53, _⟩ => ⟨S32768x512, .f32⟩
  | .hbm, ⟨54, _⟩ => ⟨S32768x512, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_call0_v0 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_2 : Ref sig .tc := ⟨.hbm, 44, rfl⟩
abbrev main_call1_v0 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Proof.AttnIdealKit.lean ====
module

public import proofs.«01_k».proof.Proof.Gen.AttnIdeal.Frame
public import proofs.«01_k».proof.Proof.Gen.AttnIdeal.Skeleton
public import Idealize.ShloMosaic.Lib.Pipeline.FrameBody
public import Idealize.ShloMosaic.Lib.Ring
public import Idealize.ShloMosaic.Lib.Tactic
public import Idealize.ShloMosaic.Lib.WordCmp

/-! # The attention body: its two branch conditions, its table offsets, its buffers -/

@[expose] public section
set_option maxRecDepth 65536

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken: the point is the grid's first. -/
abbrev cFirst (i : grid0.Coords) : Prop := Scalar.cmpi .ne (Scalar.extui (Scalar.cmpi .eq (BitVec.ofNat 32 (i 0).val) 0#32)) 0#32 = 1#1
/-- The second branch is taken: the point begins a sequence. -/
abbrev cSeq (i : grid0.Coords) : Prop := Scalar.cmpi .ne (Scalar.extui (Scalar.cmpi .eq (Scalar.select (Scalar.andi (Scalar.xori (Scalar.cmpi .slt (Scalar.remsi (BitVec.ofNat 32 (i 0).val) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 (i 0).val) (Scalar.select (Scalar.cmpi .eq 32#32 0#32) 1#32 32#32)) 0#32)) (Scalar.addi (Scalar.remsi (BitVec.ofNat 32 (i 0).val) (Scalar.select (Scalar.cmpi .eq 32#32 0#32) 1#32 32#32)) (Scalar.select (Scalar.cmpi .eq 32#32 0#32) 1#32 32#32)) (Scalar.remsi (BitVec.ofNat 32 (i 0).val) (Scalar.select (Scalar.cmpi .eq 32#32 0#32) 1#32 32#32))) 0#32)) 0#32 = 1#1

theorem hFirst : ∀ t : Fin cfg0.N, cFirst (grid0.coords t) ↔ t.val = 0 :=
  (by decide +kernel : ∀ t : Fin grid0.N, cFirst (grid0.coords t) ↔ t.val = 0)
theorem hSeq : ∀ t : Fin cfg0.N, cSeq (grid0.coords t) ↔ t.val % 32 = 0 :=
  (by decide +kernel : ∀ t : Fin grid0.N, cSeq (grid0.coords t) ↔ t.val % 32 = 0)

/-- Which of the two bias tables a tile's first block reads. -/
def tab (i : grid0.Coords) : ℕ := if (i 0).val % 32 = 0 then 1 else 0

/-- The sixteen table offsets of a tile's first block. -/
theorem offs : ∀ i : grid0.Coords, k0_off1 i = ![tab i, 0, 0, 0] ∧ k0_off2 i = ![tab i, 1, 0, 0] ∧ k0_off3 i = ![tab i, 2, 0, 0] ∧ k0_off4 i = ![tab i, 3, 0, 0] ∧ k0_off5 i = ![tab i, 4, 0, 0] ∧ k0_off6 i = ![tab i, 5, 0, 0] ∧ k0_off7 i = ![tab i, 6, 0, 0] ∧ k0_off8 i = ![tab i, 7, 0, 0] ∧ k0_off9 i = ![tab i, 8, 0, 0] ∧ k0_off10 i = ![tab i, 9, 0, 0] ∧ k0_off11 i = ![tab i, 10, 0, 0] ∧ k0_off12 i = ![tab i, 11, 0, 0] ∧ k0_off13 i = ![tab i, 12, 0, 0] ∧ k0_off14 i = ![tab i, 13, 0, 0] ∧ k0_off15 i = ![tab i, 14, 0, 0] ∧ k0_off16 i = ![tab i, 15, 0, 0] := by
  decide +kernel

theorem tab_first (i : grid0.Coords) (h : cFirst i) : tab i = 1 := by
  revert i
  decide +kernel

instance off1 (i : grid0.Coords) [h : Fact (cFirst i)] : ClosedOff (k0_off1 i) := ⟨![1, 0, 0, 0], by rw [(offs i).1, tab_first i h.out]⟩
instance off2 (i : grid0.Coords) [h : Fact (cFirst i)] : ClosedOff (k0_off2 i) := ⟨![1, 1, 0, 0], by rw [(offs i).2.1, tab_first i h.out]⟩
instance off3 (i : grid0.Coords) [h : Fact (cFirst i)] : ClosedOff (k0_off3 i) := ⟨![1, 2, 0, 0], by rw [(offs i).2.2.1, tab_first i h.out]⟩
instance off4 (i : grid0.Coords) [h : Fact (cFirst i)] : ClosedOff (k0_off4 i) := ⟨![1, 3, 0, 0], by rw [(offs i).2.2.2.1, tab_first i h.out]⟩
instance off5 (i : grid0.Coords) [h : Fact (cFirst i)] : ClosedOff (k0_off5 i) := ⟨![1, 4, 0, 0], by rw [(offs i).2.2.2.2.1, tab_first i h.out]⟩
instance off6 (i : grid0.Coords) [h : Fact (cFirst i)] : ClosedOff (k0_off6 i) := ⟨![1, 5, 0, 0], by rw [(offs i).2.2.2.2.2.1, tab_first i h.out]⟩
instance off7 (i : grid0.Coords) [h : Fact (cFirst i)] : ClosedOff (k0_off7 i) := ⟨![1, 6, 0, 0], by rw [(offs i).2.2.2.2.2.2.1, tab_first i h.out]⟩
instance off8 (i : grid0.Coords) [h : Fact (cFirst i)] : ClosedOff (k0_off8 i) := ⟨![1, 7, 0, 0], by rw [(offs i).2.2.2.2.2.2.2.1, tab_first i h.out]⟩
instance off9 (i : grid0.Coords) [h : Fact (cFirst i)] : ClosedOff (k0_off9 i) := ⟨![1, 8, 0, 0], by rw [(offs i).2.2.2.2.2.2.2.2.1, tab_first i h.out]⟩
instance off10 (i : grid0.Coords) [h : Fact (cFirst i)] : ClosedOff (k0_off10 i) := ⟨![1, 9, 0, 0], by rw [(offs i).2.2.2.2.2.2.2.2.2.1, tab_first i h.out]⟩
instance off11 (i : grid0.Coords) [h : Fact (cFirst i)] : ClosedOff (k0_off11 i) := ⟨![1, 10, 0, 0], by rw [(offs i).2.2.2.2.2.2.2.2.2.2.1, tab_first i h.out]⟩
instance off12 (i : grid0.Coords) [h : Fact (cFirst i)] : ClosedOff (k0_off12 i) := ⟨![1, 11, 0, 0], by rw [(offs i).2.2.2.2.2.2.2.2.2.2.2.1, tab_first i h.out]⟩
instance off13 (i : grid0.Coords) [h : Fact (cFirst i)] : ClosedOff (k0_off13 i) := ⟨![1, 12, 0, 0], by rw [(offs i).2.2.2.2.2.2.2.2.2.2.2.2.1, tab_first i h.out]⟩
instance off14 (i : grid0.Coords) [h : Fact (cFirst i)] : ClosedOff (k0_off14 i) := ⟨![1, 13, 0, 0], by rw [(offs i).2.2.2.2.2.2.2.2.2.2.2.2.2.1, tab_first i h.out]⟩
instance off15 (i : grid0.Coords) [h : Fact (cFirst i)] : ClosedOff (k0_off15 i) := ⟨![1, 14, 0, 0], by rw [(offs i).2.2.2.2.2.2.2.2.2.2.2.2.2.2.1, tab_first i h.out]⟩
instance off16 (i : grid0.Coords) [h : Fact (cFirst i)] : ClosedOff (k0_off16 i) := ⟨![1, 15, 0, 0], by rw [(offs i).2.2.2.2.2.2.2.2.2.2.2.2.2.2.2, tab_first i h.out]⟩

abbrev VO : View sig .tc .vmem S512x1024 .bf16 := (Memref.whole cc0_stg4_0 : Memref sig .tc .vmem S512x1024 .bf16).view
abbrev ms0 (t : Fin cfg0.N) : Memref sig .tc .smem S16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1280 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1024 .bf16 := win0_4.stage (cfg0.slots t 4)
abbrev hs4 (t : Fin cfg0.N) : (ms4 t).IsWhole := hstage0_4 ((cfg0.slots t 4).cast nbuf0_4)
abbrev sc0 : Memref sig .tc .vmem S512x1024 .bf16 := Memref.whole cc0_scratch0
abbrev sc1 : Memref sig .tc .vmem S640x128 .f32 := Memref.whole cc0_scratch1
abbrev sc2 : Memref sig .tc .vmem S640x128 .f32 := Memref.whole cc0_scratch2
abbrev sc3 : Memref sig .tc .vmem S2x16x128x256 .f32 := Memref.whole cc0_scratch3

/-- The invariant handed to the region: the four scratch buffers and the generator register, each at something. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

end Cert.AttnIdeal.Body

end
-- ==== Proof.AttnIdealRunA.lean ====
module

public import proofs.«01_k».proof.Proof.AttnIdealKit

/-! # The attention body run at the grid's first point -/

@[expose] public section
set_option maxRecDepth 65536

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- What the body's stores leave at the grid's first point, as pieces, with the proof that the body runs to them. -/
def runA (c : Dev nD) (i : grid0.Coords) (arg1 : Memref sig .tc .smem S16 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S2048x1280 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S640x128 .f32) (harg7 : arg7.IsWhole) (arg8 : Memref sig .tc .vmem S640x128 .f32) (harg8 : arg8.IsWhole) (arg9 : Memref sig .tc .vmem S2x16x128x256 .f32) (harg9 : arg9.IsWhole) (hc0 : cFirst i) (hc1 : cSeq i)
    (x0 : Vec F S16 .f32) (x1 : Vec F S512x2048 .f32) (x2 : Vec F S1x2048 .f32) (x3 : Vec F S2048x1280 .bf16) (y7 : Vec F S640x128 .f32) (y8 : Vec F S640x128 .f32) (y9 : Vec F S2x16x128x256 .f32) :
    Σ' (L5 : List (View.Piece (Elt F) S512x1024 .bf16)) (L6 : List (View.Piece (Elt F) S512x1024 .bf16)) (L7 : List (View.Piece (Elt F) S640x128 .f32)) (L8 : List (View.Piece (Elt F) S640x128 .f32)), { L9 : List (View.Piece (Elt F) S2x16x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare y7 ∗ owns (c : Thread nD τ) arg8 fullShare y8 ∗ owns (c : Thread nD τ) arg9 fullShare y9
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, (arg5.view.loc (c : Thread nD τ) ↦[arg5.view.set]{fullShare} arg5.view.writes (Elt F) f L5)) ∗ (∃ f, (arg6.view.loc (c : Thread nD τ) ↦[arg6.view.set]{fullShare} arg6.view.writes (Elt F) f L6)) ∗ (arg7.view.loc (c : Thread nD τ) ↦[arg7.view.set]{fullShare} arg7.view.writes (Elt F) (harg7.unread y7) L7) ∗ (arg8.view.loc (c : Thread nD τ) ↦[arg8.view.set]{fullShare} arg8.view.writes (Elt F) (harg8.unread y8) L8) ∗ (arg9.view.loc (c : Thread nD τ) ↦[arg9.view.set]{fullShare} arg9.view.writes (Elt F) (harg9.unread y9) L9)) -∗ K ⟨⟩))
          ⊢ wp frame (wpE (defs₀ (F := F)) Variants.none c none) E (cc0_attn_branch i arg1 harg1 arg2 harg2 arg3 harg3 arg4 harg4 arg5 harg5 arg6 harg6 arg7 harg7 arg8 harg8 arg9 harg9) K } := by
  refine ⟨?_, ?_, ?_, ?_, ?_, fun E K => ?run⟩
  case run =>
    haveI : Fact (cFirst i) := ⟨hc0⟩
    simp only [cc0_attn_branch_eq_skeleton]; unfold cc0_attn_branch_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg7.eq_unread hf7; obtain rfl := harg8.eq_unread hf8; obtain rfl := harg9.eq_unread hf9
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexact H7
    isplitl [H8]; · iexact H8
    iexact H9

end Cert.AttnIdeal.Body

end
-- ==== Proof.AttnIdealRunB.lean ====
module

public import proofs.«01_k».proof.Proof.AttnIdealKit

/-! # The attention body run at a later point that begins a sequence -/

@[expose] public section
set_option maxRecDepth 65536

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- What the body's stores leave at a later point that begins a sequence, as pieces, with the proof that the body runs to them. -/
def runB (c : Dev nD) (i : grid0.Coords) (arg1 : Memref sig .tc .smem S16 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S2048x1280 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S640x128 .f32) (harg7 : arg7.IsWhole) (arg8 : Memref sig .tc .vmem S640x128 .f32) (harg8 : arg8.IsWhole) (arg9 : Memref sig .tc .vmem S2x16x128x256 .f32) (harg9 : arg9.IsWhole) (hc0 : ¬ cFirst i) (hc1 : cSeq i)
    (x0 : Vec F S16 .f32) (x1 : Vec F S512x2048 .f32) (x2 : Vec F S1x2048 .f32) (x3 : Vec F S2048x1280 .bf16) (y7 : Vec F S640x128 .f32) (y8 : Vec F S640x128 .f32) (y9 : Vec F S2x16x128x256 .f32) :
    Σ' (L5 : List (View.Piece (Elt F) S512x1024 .bf16)) (L6 : List (View.Piece (Elt F) S512x1024 .bf16)) (L7 : List (View.Piece (Elt F) S640x128 .f32)), { L8 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare y7 ∗ owns (c : Thread nD τ) arg8 fullShare y8 ∗ owns (c : Thread nD τ) arg9 fullShare y9
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, (arg5.view.loc (c : Thread nD τ) ↦[arg5.view.set]{fullShare} arg5.view.writes (Elt F) f L5)) ∗ (∃ f, (arg6.view.loc (c : Thread nD τ) ↦[arg6.view.set]{fullShare} arg6.view.writes (Elt F) f L6)) ∗ (arg7.view.loc (c : Thread nD τ) ↦[arg7.view.set]{fullShare} arg7.view.writes (Elt F) (harg7.unread y7) L7) ∗ (arg8.view.loc (c : Thread nD τ) ↦[arg8.view.set]{fullShare} arg8.view.writes (Elt F) (harg8.unread y8) L8) ∗ owns (c : Thread nD τ) arg9 fullShare y9) -∗ K ⟨⟩))
          ⊢ wp frame (wpE (defs₀ (F := F)) Variants.none c none) E (cc0_attn_branch i arg1 harg1 arg2 harg2 arg3 harg3 arg4 harg4 arg5 harg5 arg6 harg6 arg7 harg7 arg8 harg8 arg9 harg9) K } := by
  refine ⟨?_, ?_, ?_, ?_, fun E K => ?run⟩
  case run =>
    skip
    simp only [cc0_attn_branch_eq_skeleton]; unfold cc0_attn_branch_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg7.eq_unread hf7; obtain rfl := harg8.eq_unread hf8; obtain rfl := harg9.eq_unread hf9
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexact H7
    isplitl [H8]; · iexact H8
    iexists _; isplitr; · ipureintro; exact harg9.read_unread _
    iexact H9

end Cert.AttnIdeal.Body

end
-- ==== Proof.AttnIdealRunC.lean ====
module

public import proofs.«01_k».proof.Proof.AttnIdealKit

/-! # The attention body run at a point inside a sequence -/

@[expose] public section
set_option maxRecDepth 65536

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 40000000 in
/-- What the body's stores leave at a point inside a sequence, as pieces, with the proof that the body runs to them. -/
def runC (c : Dev nD) (i : grid0.Coords) (arg1 : Memref sig .tc .smem S16 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S2048x1280 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S640x128 .f32) (harg7 : arg7.IsWhole) (arg8 : Memref sig .tc .vmem S640x128 .f32) (harg8 : arg8.IsWhole) (arg9 : Memref sig .tc .vmem S2x16x128x256 .f32) (harg9 : arg9.IsWhole) (hc0 : ¬ cFirst i) (hc1 : ¬ cSeq i)
    (x0 : Vec F S16 .f32) (x1 : Vec F S512x2048 .f32) (x2 : Vec F S1x2048 .f32) (x3 : Vec F S2048x1280 .bf16) (y7 : Vec F S640x128 .f32) (y8 : Vec F S640x128 .f32) (y9 : Vec F S2x16x128x256 .f32) :
    Σ' (L5 : List (View.Piece (Elt F) S512x1024 .bf16)) (L6 : List (View.Piece (Elt F) S512x1024 .bf16)) (L7 : List (View.Piece (Elt F) S640x128 .f32)), { L8 : List (View.Piece (Elt F) S640x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare y7 ∗ owns (c : Thread nD τ) arg8 fullShare y8 ∗ owns (c : Thread nD τ) arg9 fullShare y9
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, (arg5.view.loc (c : Thread nD τ) ↦[arg5.view.set]{fullShare} arg5.view.writes (Elt F) f L5)) ∗ (∃ f, (arg6.view.loc (c : Thread nD τ) ↦[arg6.view.set]{fullShare} arg6.view.writes (Elt F) f L6)) ∗ (arg7.view.loc (c : Thread nD τ) ↦[arg7.view.set]{fullShare} arg7.view.writes (Elt F) (harg7.unread y7) L7) ∗ (arg8.view.loc (c : Thread nD τ) ↦[arg8.view.set]{fullShare} arg8.view.writes (Elt F) (harg8.unread y8) L8) ∗ owns (c : Thread nD τ) arg9 fullShare y9) -∗ K ⟨⟩))
          ⊢ wp frame (wpE (defs₀ (F := F)) Variants.none c none) E (cc0_attn_branch i arg1 harg1 arg2 harg2 arg3 harg3 arg4 harg4 arg5 harg5 arg6 harg6 arg7 harg7 arg8 harg8 arg9 harg9) K } := by
  refine ⟨?_, ?_, ?_, ?_, fun E K => ?run⟩
  case run =>
    skip
    simp only [cc0_attn_branch_eq_skeleton]; unfold cc0_attn_branch_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton]
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg7.eq_unread hf7; obtain rfl := harg8.eq_unread hf8; obtain rfl := harg9.eq_unread hf9
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexact H7
    isplitl [H8]; · iexact H8
    iexists _; isplitr; · ipureintro; exact harg9.read_unread _
    iexact H9

end Cert.AttnIdeal.Body

end
-- ==== Proof.AttnIdealFrame.lean ====
module

public import proofs.«01_k».proof.Proof.AttnIdealRunA
public import proofs.«01_k».proof.Proof.AttnIdealRunB
public import proofs.«01_k».proof.Proof.AttnIdealRunC
public import Idealize.ShloMosaic.Lib.Claim

/-! # What the attention body leaves point by point, and its frame -/

@[expose] public section
set_option maxRecDepth 65536

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev VK : View sig .tc .vmem S640x128 .f32 := sc1.view
abbrev VW : View sig .tc .vmem S640x128 .f32 := sc2.view
abbrev VB : View sig .tc .vmem S2x16x128x256 .f32 := sc3.view

/-- What a point leaves: the output's block, then the keys, the values and the bias tables the kernel carries. -/
abbrev Left (F : FTy → Type) : Type := Vec F S512x1024 .bf16 × Vec F S640x128 .f32 × Vec F S640x128 .f32 × Vec F S2x16x128x256 .f32

/-- The first point's run, over whatever the scratch buffers hold. -/
abbrev rA (c : Dev nD) (t : Fin cfg0.N) (h0 : t.val = 0) (y7 y8 : Vec F S640x128 .f32) (y9 : Vec F S2x16x128x256 .f32) :=
  runA c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _)
    ((hFirst t).mpr h0) ((hSeq t).mpr (by omega)) (iblk m c 0 t) (iblk m c 1 t) (iblk m c 2 t) (iblk m c 3 t) y7 y8 y9

/-- The run at a later point that begins a sequence. -/
abbrev rB (c : Dev nD) (t : Fin cfg0.N) (h0 : ¬ t.val = 0) (h1 : t.val % 32 = 0) (y7 y8 : Vec F S640x128 .f32) (y9 : Vec F S2x16x128x256 .f32) :=
  runB c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _)
    (fun h => h0 ((hFirst t).mp h)) ((hSeq t).mpr h1) (iblk m c 0 t) (iblk m c 1 t) (iblk m c 2 t) (iblk m c 3 t) y7 y8 y9

/-- The run at a point inside a sequence. -/
abbrev rC (c : Dev nD) (t : Fin cfg0.N) (h0 : ¬ t.val = 0) (h1 : ¬ t.val % 32 = 0) (y7 y8 : Vec F S640x128 .f32) (y9 : Vec F S2x16x128x256 .f32) :=
  runC c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _)
    (fun h => h0 ((hFirst t).mp h)) (fun h => h1 ((hSeq t).mp h)) (iblk m c 0 t) (iblk m c 1 t) (iblk m c 2 t) (iblk m c 3 t) y7 y8 y9

theorem coverA5 (c : Dev nD) (t : Fin cfg0.N) (h0 : t.val = 0) (y7 y8 : Vec F S640x128 .f32) (y9 : Vec F S2x16x128x256 .f32) (y : S512x1024.Idx) :
    ∃ pc ∈ (rA m c t h0 y7 y8 y9).1, y ∈ pc.1.set :=
  View.cover_of_tiledL (rA m c t h0 y7 y8 y9).1 S128x128.size (by sl_kernel_rfl) y

theorem coverA7 (c : Dev nD) (t : Fin cfg0.N) (h0 : t.val = 0) (y7 y8 : Vec F S640x128 .f32) (y9 : Vec F S2x16x128x256 .f32) (y : S640x128.Idx) :
    ∃ pc ∈ (rA m c t h0 y7 y8 y9).2.2.1, y ∈ pc.1.set :=
  View.cover_of_tiledBy (rA m c t h0 y7 y8 y9).2.2.1 S128x128.size (by sl_kernel_rfl) y

theorem coverA8 (c : Dev nD) (t : Fin cfg0.N) (h0 : t.val = 0) (y7 y8 : Vec F S640x128 .f32) (y9 : Vec F S2x16x128x256 .f32) (y : S640x128.Idx) :
    ∃ pc ∈ (rA m c t h0 y7 y8 y9).2.2.2.1, y ∈ pc.1.set :=
  View.cover_of_tiledBy (rA m c t h0 y7 y8 y9).2.2.2.1 S128x128.size (by sl_kernel_rfl) y

theorem coverA9 (c : Dev nD) (t : Fin cfg0.N) (h0 : t.val = 0) (y7 y8 : Vec F S640x128 .f32) (y9 : Vec F S2x16x128x256 .f32) (y : S2x16x128x256.Idx) :
    ∃ pc ∈ (rA m c t h0 y7 y8 y9).2.2.2.2.1, y ∈ pc.1.set :=
  View.cover_of_tiledL (rA m c t h0 y7 y8 y9).2.2.2.2.1 S1x1x128x256.size (by sl_kernel_rfl) y

theorem coverB5 (c : Dev nD) (t : Fin cfg0.N) (h0 : ¬ t.val = 0) (h1 : t.val % 32 = 0) (y7 y8 : Vec F S640x128 .f32) (y9 : Vec F S2x16x128x256 .f32) (y : S512x1024.Idx) :
    ∃ pc ∈ (rB m c t h0 h1 y7 y8 y9).1, y ∈ pc.1.set :=
  View.cover_of_tiledL (rB m c t h0 h1 y7 y8 y9).1 S128x128.size (by sl_kernel_rfl) y

theorem coverB7 (c : Dev nD) (t : Fin cfg0.N) (h0 : ¬ t.val = 0) (h1 : t.val % 32 = 0) (y7 y8 : Vec F S640x128 .f32) (y9 : Vec F S2x16x128x256 .f32) (y : S640x128.Idx) :
    ∃ pc ∈ (rB m c t h0 h1 y7 y8 y9).2.2.1, y ∈ pc.1.set :=
  View.cover_of_tiledBy (rB m c t h0 h1 y7 y8 y9).2.2.1 S128x128.size (by sl_kernel_rfl) y

theorem coverB8 (c : Dev nD) (t : Fin cfg0.N) (h0 : ¬ t.val = 0) (h1 : t.val % 32 = 0) (y7 y8 : Vec F S640x128 .f32) (y9 : Vec F S2x16x128x256 .f32) (y : S640x128.Idx) :
    ∃ pc ∈ (rB m c t h0 h1 y7 y8 y9).2.2.2.1, y ∈ pc.1.set :=
  View.cover_of_tiledBy (rB m c t h0 h1 y7 y8 y9).2.2.2.1 S128x128.size (by sl_kernel_rfl) y

theorem coverC5 (c : Dev nD) (t : Fin cfg0.N) (h0 : ¬ t.val = 0) (h1 : ¬ t.val % 32 = 0) (y7 y8 : Vec F S640x128 .f32) (y9 : Vec F S2x16x128x256 .f32) (y : S512x1024.Idx) :
    ∃ pc ∈ (rC m c t h0 h1 y7 y8 y9).1, y ∈ pc.1.set :=
  View.cover_of_tiledL (rC m c t h0 h1 y7 y8 y9).1 S128x128.size (by sl_kernel_rfl) y

theorem coverC7 (c : Dev nD) (t : Fin cfg0.N) (h0 : ¬ t.val = 0) (h1 : ¬ t.val % 32 = 0) (y7 y8 : Vec F S640x128 .f32) (y9 : Vec F S2x16x128x256 .f32) (y : S640x128.Idx) :
    ∃ pc ∈ (rC m c t h0 h1 y7 y8 y9).2.2.1, y ∈ pc.1.set :=
  View.cover_of_tiledBy (rC m c t h0 h1 y7 y8 y9).2.2.1 S128x128.size (by sl_kernel_rfl) y

theorem coverC8 (c : Dev nD) (t : Fin cfg0.N) (h0 : ¬ t.val = 0) (h1 : ¬ t.val % 32 = 0) (y7 y8 : Vec F S640x128 .f32) (y9 : Vec F S2x16x128x256 .f32) (y : S640x128.Idx) :
    ∃ pc ∈ (rC m c t h0 h1 y7 y8 y9).2.2.2.1, y ∈ pc.1.set :=
  View.cover_of_tiledBy (rC m c t h0 h1 y7 y8 y9).2.2.2.1 S128x128.size (by sl_kernel_rfl) y

/-- The first point's pieces do not depend on what the scratch buffers held. -/
theorem sameA5 (c : Dev nD) (t : Fin cfg0.N) (h0 : t.val = 0) (y7 y8 : Vec F S640x128 .f32) (y9 : Vec F S2x16x128x256 .f32) (z7 z8 : Vec F S640x128 .f32) (z9 : Vec F S2x16x128x256 .f32) :
    (rA m c t h0 y7 y8 y9).1 = (rA m c t h0 z7 z8 z9).1 := by
  unfold rA runA
  dsimp only

/-- The first point's pieces do not depend on what the scratch buffers held. -/
theorem sameA7 (c : Dev nD) (t : Fin cfg0.N) (h0 : t.val = 0) (y7 y8 : Vec F S640x128 .f32) (y9 : Vec F S2x16x128x256 .f32) (z7 z8 : Vec F S640x128 .f32) (z9 : Vec F S2x16x128x256 .f32) :
    (rA m c t h0 y7 y8 y9).2.2.1 = (rA m c t h0 z7 z8 z9).2.2.1 := by
  unfold rA runA
  dsimp only

/-- The first point's pieces do not depend on what the scratch buffers held. -/
theorem sameA8 (c : Dev nD) (t : Fin cfg0.N) (h0 : t.val = 0) (y7 y8 : Vec F S640x128 .f32) (y9 : Vec F S2x16x128x256 .f32) (z7 z8 : Vec F S640x128 .f32) (z9 : Vec F S2x16x128x256 .f32) :
    (rA m c t h0 y7 y8 y9).2.2.2.1 = (rA m c t h0 z7 z8 z9).2.2.2.1 := by
  unfold rA runA
  dsimp only

/-- The first point's pieces do not depend on what the scratch buffers held. -/
theorem sameA9 (c : Dev nD) (t : Fin cfg0.N) (h0 : t.val = 0) (y7 y8 : Vec F S640x128 .f32) (y9 : Vec F S2x16x128x256 .f32) (z7 z8 : Vec F S640x128 .f32) (z9 : Vec F S2x16x128x256 .f32) :
    (rA m c t h0 y7 y8 y9).2.2.2.2.1 = (rA m c t h0 z7 z8 z9).2.2.2.2.1 := by
  unfold rA runA
  dsimp only

/-- What the first point leaves. -/
def leftA (c : Dev nD) (t : Fin cfg0.N) (h0 : t.val = 0) : Left F :=
  (VO.read (Elt F) (VO.writes (Elt F) VO.junk (rA m c t h0 (VK.read (Elt F) VK.junk) (VW.read (Elt F) VW.junk) (VB.read (Elt F) VB.junk)).1),
    VK.read (Elt F) (VK.writes (Elt F) VK.junk (rA m c t h0 (VK.read (Elt F) VK.junk) (VW.read (Elt F) VW.junk) (VB.read (Elt F) VB.junk)).2.2.1),
    VW.read (Elt F) (VW.writes (Elt F) VW.junk (rA m c t h0 (VK.read (Elt F) VK.junk) (VW.read (Elt F) VW.junk) (VB.read (Elt F) VB.junk)).2.2.2.1),
    VB.read (Elt F) (VB.writes (Elt F) VB.junk (rA m c t h0 (VK.read (Elt F) VK.junk) (VW.read (Elt F) VW.junk) (VB.read (Elt F) VB.junk)).2.2.2.2.1))

/-- What a later point that begins a sequence leaves, over what the point before left. -/
def leftB (c : Dev nD) (t : Fin cfg0.N) (h0 : ¬ t.val = 0) (h1 : t.val % 32 = 0) (y : Left F) : Left F :=
  (VO.read (Elt F) (VO.writes (Elt F) VO.junk (rB m c t h0 h1 y.2.1 y.2.2.1 y.2.2.2).1),
    VK.read (Elt F) (VK.writes (Elt F) VK.junk (rB m c t h0 h1 y.2.1 y.2.2.1 y.2.2.2).2.2.1),
    VW.read (Elt F) (VW.writes (Elt F) VW.junk (rB m c t h0 h1 y.2.1 y.2.2.1 y.2.2.2).2.2.2.1), y.2.2.2)

/-- What a point inside a sequence leaves, over what the point before left. -/
def leftC (c : Dev nD) (t : Fin cfg0.N) (h0 : ¬ t.val = 0) (h1 : ¬ t.val % 32 = 0) (y : Left F) : Left F :=
  (VO.read (Elt F) (VO.writes (Elt F) VO.junk (rC m c t h0 h1 y.2.1 y.2.2.1 y.2.2.2).1),
    VK.read (Elt F) (VK.writes (Elt F) VK.junk (rC m c t h0 h1 y.2.1 y.2.2.1 y.2.2.2).2.2.1),
    VW.read (Elt F) (VW.writes (Elt F) VW.junk (rC m c t h0 h1 y.2.1 y.2.2.1 y.2.2.2).2.2.2.1), y.2.2.2)

/-- What the output's buffer and the carried scratch hold after the body at position `n`. -/
def leftAt (c : Dev nD) : (n : ℕ) → n < cfg0.N → Left F
  | 0, hn => leftA m c ⟨0, hn⟩ rfl
  | n + 1, hn =>
    if h1 : (n + 1) % 32 = 0 then leftB m c ⟨n + 1, hn⟩ (Nat.succ_ne_zero n) h1 (leftAt c n (Nat.lt_of_succ_lt hn))
    else leftC m c ⟨n + 1, hn⟩ (Nat.succ_ne_zero n) h1 (leftAt c n (Nat.lt_of_succ_lt hn))

theorem leftAt_A (c : Dev nD) (t : Fin cfg0.N) (h0 : t.val = 0) : leftAt m c t.val t.isLt = leftA m c t h0 := by
  obtain ⟨n, hn⟩ := t
  cases n with
  | zero => rfl
  | succ n => exact absurd h0 (Nat.succ_ne_zero n)

theorem leftAt_B (c : Dev nD) (t : Fin cfg0.N) (h0 : ¬ t.val = 0) (h1 : t.val % 32 = 0) :
    leftAt m c t.val t.isLt = leftB m c t h0 h1 (leftAt m c (t.val - 1) (Nat.lt_of_le_of_lt (Nat.sub_le _ _) t.isLt)) := by
  obtain ⟨n, hn⟩ := t
  cases n with
  | zero => exact absurd rfl h0
  | succ n => exact (dif_pos h1).trans rfl

theorem leftAt_C (c : Dev nD) (t : Fin cfg0.N) (h0 : ¬ t.val = 0) (h1 : ¬ t.val % 32 = 0) :
    leftAt m c t.val t.isLt = leftC m c t h0 h1 (leftAt m c (t.val - 1) (Nat.lt_of_le_of_lt (Nat.sub_le _ _) t.isLt)) := by
  obtain ⟨n, hn⟩ := t
  cases n with
  | zero => exact absurd rfl h0
  | succ n => exact (dif_neg h1).trans rfl

/-- The invariant before position `n`: at first the scratch at anything, afterwards the carried scratch at what the
    point before left. -/
def Phi (c : Dev nD) : (n : ℕ) → n ≤ cfg0.N → sProp 𝕄
  | 0, _ => Pipeline.ΦA spec0 c
  | n + 1, hn => iprop(iprop((∃ d, owns (c : Thread nD τ) sc0 fullShare d) ∗ owns (c : Thread nD τ) sc1 fullShare ((leftAt m c n hn).2.1) ∗ owns (c : Thread nD τ) sc2 fullShare ((leftAt m c n hn).2.2.1) ∗ owns (c : Thread nD τ) sc3 fullShare ((leftAt m c n hn).2.2.2)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop((∃ d, owns (c : Thread nD τ) sc0 fullShare d) ∗ owns (c : Thread nD τ) sc1 fullShare ((leftAt m c n hn).2.1) ∗ owns (c : Thread nD τ) sc2 fullShare ((leftAt m c n hn).2.2.1) ∗ owns (c : Thread nD τ) sc3 fullShare ((leftAt m c n hn).2.2.2)) ∗ (∃ r, prngReg c r)) := rfl

theorem Phi_pos (c : Dev nD) (n : ℕ) (h : n ≤ cfg0.N) (hz : n ≠ 0) :
    Phi m c n h = iprop(iprop((∃ d, owns (c : Thread nD τ) sc0 fullShare d) ∗ owns (c : Thread nD τ) sc1 fullShare ((leftAt m c (n - 1) (by omega)).2.1) ∗ owns (c : Thread nD τ) sc2 fullShare ((leftAt m c (n - 1) (by omega)).2.2.1) ∗ owns (c : Thread nD τ) sc3 fullShare ((leftAt m c (n - 1) (by omega)).2.2.2)) ∗ (∃ r, prngReg c r)) := by
  cases n with
  | zero => exact absurd rfl hz
  | succ n => rfl

/-- The pipeline's proof data: every input's buffer at its block, the output's at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (leftAt m c t.val t.isLt).1
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (leftAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What the body returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 3200000 in
/-- The body at any point: the case's run applies, and its pieces cover what the invariant and the output name. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = Phi m c (t.val + 1) t.isLt from rfl, Phi_succ, Phi_castSucc m c t]
  by_cases h0 : t.val = 0
  · rw [Phi_zero m c _ _ h0, PhiA_eq, leftAt_A m c t h0]
    unfold leftA; dsimp only
    iintro ⟨⟨⟨⟨%g6, HS0⟩, ⟨%g7, HS1⟩, ⟨%g8, HS2⟩, ⟨%g9, HS3⟩⟩, Hg⟩, Ho, ⟨%d0, H0⟩, ⟨%d1, H1⟩, ⟨%d2, H2⟩, ⟨%d3, H3⟩, ⟨%d4, H4⟩⟩
    iapply ((rA m c t h0 g7 g8 g9).2.2.2.2.2 Set.univ _)
    isplitl [H0]; · iexact H0
    isplitl [H1]; · iexact H1
    isplitl [H2]; · iexact H2
    isplitl [H3]; · iexact H3
    isplitl [H4]; · iexists _; iexact H4
    isplitl [HS0]; · iexists _; iexact HS0
    isplitl [HS1]; · iexact HS1
    isplitl [HS2]; · iexact HS2
    isplitl [HS3]; · iexact HS3
    iintro ⟨H0, H1, H2, H3, ⟨%e4, H4⟩, ⟨%e6, HS0⟩, HS1, HS2, HS3⟩
    isplitl [HS0 HS1 HS2 HS3 Hg]
    · isplitl [HS0 HS1 HS2 HS3]
      · isplitl [HS0]
        · iexists _; unfold owns; iexists _; isplitr
          swap; · iexact HS0
          ipureintro; rfl
        isplitl [HS1]
        · unfold owns; iexists _; isplitr
          swap; · iexact HS1
          ipureintro; exact (View.read_writes_of_cover _ _ VK VK.junk _ (coverA7 m c t h0 _ _ _)).trans (congrArg (fun L => VK.read (Elt F) (VK.writes (Elt F) VK.junk L)) (sameA7 m c t h0 _ _ _ _ _ _))
        isplitl [HS2]
        · unfold owns; iexists _; isplitr
          swap; · iexact HS2
          ipureintro; exact (View.read_writes_of_cover _ _ VW VW.junk _ (coverA8 m c t h0 _ _ _)).trans (congrArg (fun L => VW.read (Elt F) (VW.writes (Elt F) VW.junk L)) (sameA8 m c t h0 _ _ _ _ _ _))
        unfold owns; iexists _; isplitr
        swap; · iexact HS3
        ipureintro; exact (View.read_writes_of_cover _ _ VB VB.junk _ (coverA9 m c t h0 _ _ _)).trans (congrArg (fun L => VB.read (Elt F) (VB.writes (Elt F) VB.junk L)) (sameA9 m c t h0 _ _ _ _ _ _))
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact (View.read_writes_of_cover _ _ VO VO.junk _ (coverA5 m c t h0 _ _ _)).trans (congrArg (fun L => VO.read (Elt F) (VO.writes (Elt F) VO.junk L)) (sameA5 m c t h0 _ _ _ _ _ _))
  · by_cases h1 : t.val % 32 = 0
    · rw [Phi_pos m c _ _ h0, leftAt_B m c t h0 h1]
      unfold leftB; dsimp only
      iintro ⟨⟨⟨⟨%g6, HS0⟩, HS1, HS2, HS3⟩, Hg⟩, Ho, ⟨%d0, H0⟩, ⟨%d1, H1⟩, ⟨%d2, H2⟩, ⟨%d3, H3⟩, ⟨%d4, H4⟩⟩
      iapply ((rB m c t h0 h1 _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexact HS1
      isplitl [HS2]; · iexact HS2
      isplitl [HS3]; · iexact HS3
      iintro ⟨H0, H1, H2, H3, ⟨%e4, H4⟩, ⟨%e6, HS0⟩, HS1, HS2, HS3⟩
      isplitl [HS0 HS1 HS2 HS3 Hg]
      · isplitl [HS0 HS1 HS2 HS3]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ VK VK.junk _ (coverB7 m c t h0 h1 _ _ _)
          isplitl [HS2]
          · unfold owns; iexists _; isplitr
            swap; · iexact HS2
            ipureintro; exact View.read_writes_of_cover _ _ VW VW.junk _ (coverB8 m c t h0 h1 _ _ _)
          iexact HS3
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ VO VO.junk _ (coverB5 m c t h0 h1 _ _ _)
    · rw [Phi_pos m c _ _ h0, leftAt_C m c t h0 h1]
      unfold leftC; dsimp only
      iintro ⟨⟨⟨⟨%g6, HS0⟩, HS1, HS2, HS3⟩, Hg⟩, Ho, ⟨%d0, H0⟩, ⟨%d1, H1⟩, ⟨%d2, H2⟩, ⟨%d3, H3⟩, ⟨%d4, H4⟩⟩
      iapply ((rC m c t h0 h1 _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexact HS1
      isplitl [HS2]; · iexact HS2
      isplitl [HS3]; · iexact HS3
      iintro ⟨H0, H1, H2, H3, ⟨%e4, H4⟩, ⟨%e6, HS0⟩, HS1, HS2, HS3⟩
      isplitl [HS0 HS1 HS2 HS3 Hg]
      · isplitl [HS0 HS1 HS2 HS3]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ VK VK.junk _ (coverC7 m c t h0 h1 _ _ _)
          isplitl [HS2]
          · unfold owns; iexists _; isplitr
            swap; · iexact HS2
            ipureintro; exact View.read_writes_of_cover _ _ VW VW.junk _ (coverC8 m c t h0 h1 _ _ _)
          iexact HS3
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ VO VO.junk _ (coverC5 m c t h0 h1 _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c cfg0.N le_rfl from rfl,
    Phi_pos m c _ _ (by have : cfg0.N = 64 := N_0; omega), PhiA_eq]
  iintro ⟨⟨HS0, HS1, HS2, HS3⟩, Hg⟩
  isplitl [HS0 HS1 HS2 HS3]
  · isplitl [HS0]; · iexact HS0
    isplitl [HS1]; · iexists _; iexact HS1
    isplitl [HS2]; · iexists _; iexact HS2
    iexists _; iexact HS3
  iexact Hg

set_option backward.isDefEq.respectTransparency.types false in
/-- The launch: the arrays end at what the proof data says, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AttnIdeal.Body

end
-- ==== Proof.FfnSpec.lean ====
module

public import proofs.«01_k».proof.Proof.Gen.FfnIdeal.Value
public import proofs.«01_k».proof.Proof.Gen.FfnRefIdeal.Run
public import Idealize.ShloMosaic.Lib.Pointwise
public import Idealize.ShloMosaic.Lib.Pipeline.ValueKit

/-! # The feed-forward half step on real numbers

The scalar functions both programs are read as: the root mean square norm of a row, one gated hidden entry, and the
half step's result entry; then the payloads of the kernel's body and the reference's term read at an index. -/

@[expose] public section
set_option maxRecDepth 16384
noncomputable section

open Idealize.ShloMosaic Idealize.ShloMosaic.TcCoe Idealize.SL.Sem
open Idealize.ShloMosaic.Pipeline (Dat)

namespace Cert.FfnSpec

/-- Entry `k` of the root mean square norm of the row `x` under the weights `w`. -/
def nrm (x w : Fin 2048 → EReal) (k : Fin 2048) : EReal :=
  x k * Ideal.rsqrt (Ideal.div (∑ l, x l * x l) (Ideal.ofBits .f32 0x45000000#32) + Ideal.ofBits .f32 0x358637BD#32) * w k

/-- One hidden entry: the gate column `g` through silu, times the up column `u`, both against the normed row `h`. -/
def glu (h g u : Fin 2048 → EReal) : EReal :=
  (∑ k, h k * g k) * Ideal.logistic (∑ k, h k * g k) * ∑ k, h k * u k

/-- The half step's result entry: the row plus half the norm of the branch `y`. -/
def outp (x y w : Fin 2048 → EReal) (k : Fin 2048) : EReal :=
  x k + nrm y (fun l => w l * Ideal.ofBits .f32 0x3F000000#32) k

/-- Halving after the norm is halving its weight. -/
theorem outp_half (x y w : Fin 2048 → EReal) (k : Fin 2048) :
    x k + Ideal.ofBits .f32 0x3F000000#32 * nrm y w k = outp x y w k := by
  unfold outp nrm
  rw [mul_comm (Ideal.ofBits .f32 0x3F000000#32), mul_assoc _ (w k)]

end Cert.FfnSpec

namespace Cert.FfnIdeal.Val
open Cert.FfnIdeal Cert.FfnIdeal.Gen Cert.FfnSpec

/-- The first 512 rows at the first column tile. -/
theorem pay10_at (a b c d e) (r : Fin 512) (k : Fin 2048) :
    k0_pay10 (k0_pay7 (F := Ideal) a b c) (k0_pay8 a b d) (k0_pay9 a b c) e (ix2 r k)
      = ∑ f : Fin 512, glu (nrm (fun l => a (ix2 r l)) fun l => b (ix2 0 l)) (fun l => c (ix2 l f)) (fun l => d (ix2 l f)) * e (ix2 f k) := by
  pointwise [k0_pay10, k0_pay7, k0_pay8, k0_pay9, k0_pay5]
  rfl

/-- The last 512 rows at the first column tile. -/
theorem pay13_at (a b c d e) (r : Fin 512) (k : Fin 2048) :
    k0_pay13 (F := Ideal) a b c d e (ix2 r k)
      = ∑ f : Fin 512, glu (nrm (fun l => a (ix2 r l)) fun l => b (ix2 0 l)) (fun l => c (ix2 l f)) (fun l => d (ix2 l f)) * e (ix2 f k) := by
  pointwise [k0_pay13, k0_pay12, k0_pay11]
  rfl

/-- The normed rows kept for the later column tiles, first half. -/
theorem pay6_at (a b) (r : Fin 512) (k : Fin 2048) :
    k0_pay6 (F := Ideal) a b (ix2 r k) = nrm (fun l => a (ix2 r l)) (fun l => b (ix2 0 l)) k := by
  pointwise [k0_pay6, k0_pay5]
  rfl

/-- The normed rows kept for the later column tiles, second half. -/
theorem pay12_at (a b) (r : Fin 512) (k : Fin 2048) :
    k0_pay12 (F := Ideal) a b (ix2 r k) = nrm (fun l => a (ix2 r l)) (fun l => b (ix2 0 l)) k := by
  pointwise [k0_pay12, k0_pay11]
  rfl

/-- A later column tile, first half: what the block held plus the tile's part. -/
theorem pay16_at (h c d e y) (r : Fin 512) (k : Fin 2048) :
    k0_pay16 (F := Ideal) h c d e y (ix2 r k)
      = y (ix2 r k) + ∑ f : Fin 512, glu (fun l => h (ix2 r l)) (fun l => c (ix2 l f)) (fun l => d (ix2 l f)) * e (ix2 f k) := by
  pointwise [k0_pay16]
  rfl

/-- A later column tile, second half. -/
theorem pay1_at (h c d e y) (r : Fin 512) (k : Fin 2048) :
    k0_pay1 (F := Ideal) h (k0_pay17 h c) d e y (ix2 r k)
      = y (ix2 r k) + ∑ f : Fin 512, glu (fun l => h (ix2 r l)) (fun l => c (ix2 l f)) (fun l => d (ix2 l f)) * e (ix2 f k) := by
  pointwise [k0_pay1, k0_pay17]
  rfl

/-- The last column tile, first half: the residual row plus the halved norm of the finished branch. -/
theorem pay23_at (w h c d e y x) (r : Fin 512) (k : Fin 2048) :
    k0_pay23 (F := Ideal) (k0_pay20 w) (k0_pay21 h c d e y) x (k0_pay22 h c d e y) (ix2 r k)
      = outp (fun l => x (ix2 r l)) (fun j => y (ix2 r j)
          + ∑ f : Fin 512, glu (fun l => h (ix2 r l)) (fun l => c (ix2 l f)) (fun l => d (ix2 l f)) * e (ix2 f j)) (fun l => w (ix2 0 l)) k := by
  pointwise [k0_pay23, k0_pay20, k0_pay21, k0_pay22]
  rfl

/-- The last column tile, second half. -/
theorem pay2_at (w h c d e y x) (r : Fin 512) (k : Fin 2048) :
    k0_pay2 (F := Ideal) (k0_pay20 w) x (k0_pay24 h c d e y) (ix2 r k)
      = outp (fun l => x (ix2 r l)) (fun j => y (ix2 r j)
          + ∑ f : Fin 512, glu (fun l => h (ix2 r l)) (fun l => c (ix2 l f)) (fun l => d (ix2 l f)) * e (ix2 f j)) (fun l => w (ix2 0 l)) k := by
  pointwise [k0_pay2, k0_pay20, k0_pay24]
  rfl

end Cert.FfnIdeal.Val

namespace Cert.FfnRefIdeal.Val
open Cert.FfnRefIdeal Cert.FfnSpec

/-- The reference's first result, read at an entry. -/
theorem ref_at (m : (ℓ : Loc nD τ sig) → Buf (Elt Ideal) ℓ) (c : Dev nD) (r : Fin 32768) (k : Fin 2048) :
    (show EReal from Value.res_main_v36 m c (ix2 r k))
      = outp (fun l => m ((c.tc : Thread nD τ).loc main_arg0) (ix2 r l))
          (fun j => ∑ f : Fin 5632, glu (nrm (fun l => m ((c.tc : Thread nD τ).loc main_arg0) (ix2 r l)) fun l => m ((c.tc : Thread nD τ).loc main_arg1) (ix1 l))
            (fun l => m ((c.tc : Thread nD τ).loc main_arg2) (ix2 l ⟨f.val, by omega⟩)) (fun l => m ((c.tc : Thread nD τ).loc main_arg2) (ix2 l ⟨5632 + f.val, by omega⟩))
            * (show EReal from m ((c.tc : Thread nD τ).loc main_arg3) (ix2 f j)))
          (fun l => m ((c.tc : Thread nD τ).loc main_arg4) (ix1 l)) k := by
  rw [← outp_half]
  pointwise [Value.res_main_v36]
  rfl

end Cert.FfnRefIdeal.Val
-- ==== Proof.FfnValue.lean ====
module

public import proofs.«01_k».proof.Proof.FfnSpec
public import Idealize.ShloMosaic.Lib.Pipeline.ReadBack

/-! # What the feed-forward kernel's three arrays hold

The blocks a grid point reads as entries of the arguments, the carried row block and the accumulated output block by
induction over the points, and the three result arrays. -/

@[expose] public section
set_option maxRecDepth 16384
noncomputable section

open Idealize.ShloMosaic Idealize.ShloMosaic.TcCoe Idealize.SL.Sem
open Idealize.ShloMosaic.Pipeline (Dat)

namespace Cert.FfnIdeal.Val
open Cert.FfnIdeal Cert.FfnIdeal.Gen Cert.FfnSpec

variable (m : (ℓ : Loc nD τ sig) → Buf (Elt Ideal) ℓ) (c : Dev nD)

/-- The residual rows, addressed by a natural row number. -/
def X (r : ℕ) (k : Fin 2048) : EReal := m ((c : Thread nD τ).loc main_arg0) (ix2 (Fin.ofNat 32768 r) k)
/-- The first norm's weights. -/
def W1 (k : Fin 2048) : EReal := m ((c : Thread nD τ).loc main_arg1) (ix1 k)
/-- A column of the gate and up weights, by a natural column number. -/
def WC (f : ℕ) (k : Fin 2048) : EReal := m ((c : Thread nD τ).loc main_arg2) (ix2 k (Fin.ofNat 11264 f))
/-- A row of the down weights. -/
def WD (f : ℕ) (k : Fin 2048) : EReal := m ((c : Thread nD τ).loc main_arg3) (ix2 (Fin.ofNat 5632 f) k)
/-- The second norm's weights. -/
def W2 (k : Fin 2048) : EReal := m ((c : Thread nD τ).loc main_arg4) (ix1 k)
/-- The normed row `r`. -/
def H (r : ℕ) : Fin 2048 → EReal := nrm (X m c r) (W1 m c)
/-- Hidden column `f`'s part of the branch at row `r`, column `k`. -/
def term (r f : ℕ) (k : Fin 2048) : EReal := glu (H m c r) (WC m c f) (WC m c (5632 + f)) * WD m c f k
/-- Column tile `j`'s part. -/
def part (r j : ℕ) (k : Fin 2048) : EReal := ∑ f : Fin 512, term m c r (j * 512 + f.val) k

theorem idx : ∀ t : Fin cfg0.N, win0_0.index t = ![t.val / 11, 0] ∧ win0_2.index t = ![0, t.val % 11]
    ∧ win0_3.index t = ![0, 11 + t.val % 11] ∧ win0_4.index t = ![t.val % 11, 0] ∧ win0_1.index t = ![0, 0] ∧ win0_5.index t = ![0, 0] :=
  (by decide +kernel : ∀ t : Fin grid0.N, _)

theorem ofNat_val (n a : ℕ) [NeZero n] (h : a < n) : (Fin.ofNat n a).val = a := Nat.mod_eq_of_lt h

theorem blk0 (t : Fin cfg0.N) (a : Fin 1024) (k : Fin 2048) :
    (show EReal from iblk m c 0 t (ix2 a k)) = X m c (t.val / 11 * 1024 + a.val) k := by
  have hN : t.val < 352 := lt_of_lt_of_eq t.isLt N_0
  have hr := ofNat_val 32768 (t.val / 11 * 1024 + a.val) (by omega)
  unfold X
  blk_point [iblk, V, idx t]

theorem blk2 (t : Fin cfg0.N) (k : Fin 2048) (f : Fin 512) :
    (show EReal from iblk m c 2 t (ix2 k f)) = WC m c (t.val % 11 * 512 + f.val) k := by
  have hr := ofNat_val 11264 (t.val % 11 * 512 + f.val) (by omega)
  unfold WC
  blk_point [iblk, V, idx t]

theorem blk3 (t : Fin cfg0.N) (k : Fin 2048) (f : Fin 512) :
    (show EReal from iblk m c 3 t (ix2 k f)) = WC m c (5632 + (t.val % 11 * 512 + f.val)) k := by
  have hr := ofNat_val 11264 (5632 + (t.val % 11 * 512 + f.val)) (by omega)
  unfold WC
  blk_point [iblk, V, idx t]

theorem blk4 (t : Fin cfg0.N) (f : Fin 512) (k : Fin 2048) :
    (show EReal from iblk m c 4 t (ix2 f k)) = WD m c (t.val % 11 * 512 + f.val) k := by
  have hr := ofNat_val 5632 (t.val % 11 * 512 + f.val) (by omega)
  unfold WD
  blk_point [iblk, V, idx t]

theorem blk1 (t : Fin cfg0.N) (k : Fin 2048) : (show EReal from iblk m c 1 t (ix2 0 k)) = W1 m c k := by
  unfold W1
  blk_point [iblk, V, idx t]

theorem blk5 (t : Fin cfg0.N) (k : Fin 2048) : (show EReal from iblk m c 5 t (ix2 0 k)) = W2 m c k := by
  unfold W2
  blk_point [iblk, V, idx t]

/-- The tile's part as the body computes it from the point's blocks. -/
theorem part_eq (t : Fin cfg0.N) (a : Fin 1024) (h : Fin 2048 → EReal) (hh : h = H m c (t.val / 11 * 1024 + a.val)) (k : Fin 2048) :
    (∑ f : Fin 512, glu h (fun l => iblk m c 2 t (ix2 l f)) (fun l => iblk m c 3 t (ix2 l f)) * (show EReal from iblk m c 4 t (ix2 f k)))
      = part m c (t.val / 11 * 1024 + a.val) (t.val % 11) k := by
  unfold part term
  refine Finset.sum_congr rfl fun f _ => ?_
  rw [hh, funext fun l => blk2 m c t l f, funext fun l => blk3 m c t l f, blk4 m c t f k]

/-- The normed row as the body computes it from the point's blocks. -/
theorem h_eq (t : Fin cfg0.N) (a : Fin 1024) :
    nrm (fun l => iblk m c 0 t (ix2 a l)) (fun l => iblk m c 1 t (ix2 0 l)) = H m c (t.val / 11 * 1024 + a.val) := by
  unfold H
  rw [funext fun l => blk0 m c t a l, funext fun l => blk1 m c t l]

/-- The first tile leaves its own part in the output block. -/
theorem accA (t : Fin cfg0.N) (ht : t.val % 11 = 0) (a : Fin 1024) (k : Fin 2048) :
    (show EReal from (outsAt0 m c t.val t.isLt).1 (ix2 a k)) = part m c (t.val / 11 * 1024 + a.val) (t.val % 11) k := by
  rw [← part_eq m c t a _ (h_eq m c t a) k]
  rw [outsAt0_A m c t ht (by omega) (by omega)]
  frame_out
  canon_tiles x h
  all_goals idx_vars x
  · have hb : 512 + x0.val < 1024 := by clear h0; omega
    obtain rfl : a = ⟨512 + x0.val, hb⟩ := Fin.ext h0
    obtain rfl : k = x1 := Fin.ext h1
    refine (pay13_at _ _ _ _ _ x0 k).trans ?_
    pointwise
  · have hb : x0.val < 1024 := by clear h0; omega
    obtain rfl : a = ⟨x0.val, hb⟩ := Fin.ext h0
    obtain rfl : k = x1 := Fin.ext h1
    refine (pay10_at _ _ _ _ _ x0 k).trans ?_
    pointwise

/-- The first tile keeps the normed rows. -/
theorem rowA (t : Fin cfg0.N) (ht : t.val % 11 = 0) (a : Fin 1024) (k : Fin 2048) :
    (show EReal from (outsAt0 m c t.val t.isLt).2.2.2 (ix2 a k)) = H m c (t.val / 11 * 1024 + a.val) k := by
  rw [← h_eq m c t a]
  rw [outsAt0_A m c t ht (by omega) (by omega)]
  frame_out
  canon_tiles x h
  all_goals idx_vars x
  · have hb : 512 + x0.val < 1024 := by clear h0; omega
    obtain rfl : a = ⟨512 + x0.val, hb⟩ := Fin.ext h0
    obtain rfl : k = x1 := Fin.ext h1
    refine (pay12_at _ _ x0 k).trans ?_
    pointwise
  · have hb : x0.val < 1024 := by clear h0; omega
    obtain rfl : a = ⟨x0.val, hb⟩ := Fin.ext h0
    obtain rfl : k = x1 := Fin.ext h1
    refine (pay6_at _ _ x0 k).trans ?_
    pointwise

/-- The later tiles keep the rows of the point before. -/
theorem rowB (t : Fin cfg0.N) (ht : t.val % 11 ≠ 0) :
    (outsAt0 m c t.val t.isLt).2.2.2 = (outsAt0 m c (t.val - 1) (lt_of_le_of_lt (Nat.sub_le _ _) t.isLt)).2.2.2 := by
  by_cases h : t.val % 11 = 10
  · rw [outsAt0_C m c t ht (by omega) h]
    rfl
  · rw [outsAt0_B m c t ht (by omega) h]
    rfl

/-- A middle tile adds its part. -/
theorem accB (t : Fin cfg0.N) (ht : t.val % 11 ≠ 0) (ht' : t.val % 11 ≠ 10)
    (hrow : ∀ (a : Fin 1024) (k : Fin 2048), (show EReal from (outsAt0 m c (t.val - 1) (lt_of_le_of_lt (Nat.sub_le _ _) t.isLt)).2.2.2 (ix2 a k)) = H m c (t.val / 11 * 1024 + a.val) k)
    (a : Fin 1024) (k : Fin 2048) :
    (show EReal from (outsAt0 m c t.val t.isLt).1 (ix2 a k))
      = (show EReal from (outsAt0 m c (t.val - 1) (lt_of_le_of_lt (Nat.sub_le _ _) t.isLt)).1 (ix2 a k)) + part m c (t.val / 11 * 1024 + a.val) (t.val % 11) k := by
  rw [← part_eq m c t a _ (funext fun l => hrow a l) k]
  rw [outsAt0_B m c t ht (by omega) ht']
  frame_out
  canon_tiles x h
  all_goals idx_vars x
  · have hb : 512 + x0.val < 1024 := by clear h0; omega
    obtain rfl : a = ⟨512 + x0.val, hb⟩ := Fin.ext h0
    obtain rfl : k = x1 := Fin.ext h1
    refine (pay1_at _ _ _ _ _ x0 k).trans ?_
    rw [read_unread_whole]
    pointwise
  · have hb : x0.val < 1024 := by clear h0; omega
    obtain rfl : a = ⟨x0.val, hb⟩ := Fin.ext h0
    obtain rfl : k = x1 := Fin.ext h1
    refine (pay16_at _ _ _ _ _ x0 k).trans ?_
    rw [read_unread_whole]
    pointwise

/-- The last tile finishes the branch and writes the residual row plus its halved norm. -/
theorem accC (t : Fin cfg0.N) (ht : t.val % 11 = 10)
    (hrow : ∀ (a : Fin 1024) (k : Fin 2048), (show EReal from (outsAt0 m c (t.val - 1) (lt_of_le_of_lt (Nat.sub_le _ _) t.isLt)).2.2.2 (ix2 a k)) = H m c (t.val / 11 * 1024 + a.val) k)
    (a : Fin 1024) (k : Fin 2048) :
    (show EReal from (outsAt0 m c t.val t.isLt).1 (ix2 a k))
      = outp (X m c (t.val / 11 * 1024 + a.val)) (fun j => (show EReal from (outsAt0 m c (t.val - 1) (lt_of_le_of_lt (Nat.sub_le _ _) t.isLt)).1 (ix2 a j))
          + part m c (t.val / 11 * 1024 + a.val) (t.val % 11) j) (W2 m c) k := by
  rw [funext fun j => congrArg _ (part_eq m c t a _ (funext fun l => hrow a l) j).symm, ← funext fun l => blk0 m c t a l, ← funext fun l => blk5 m c t l]
  rw [outsAt0_C m c t (by omega) (by omega) ht]
  frame_out
  canon_tiles x h
  all_goals idx_vars x
  · have hb : 512 + x0.val < 1024 := by clear h0; omega
    obtain rfl : a = ⟨512 + x0.val, hb⟩ := Fin.ext h0
    obtain rfl : k = x1 := Fin.ext h1
    refine (pay2_at _ _ _ _ _ _ _ x0 k).trans ?_
    rw [read_unread_whole]
    pointwise
  · have hb : x0.val < 1024 := by clear h0; omega
    obtain rfl : a = ⟨x0.val, hb⟩ := Fin.ext h0
    obtain rfl : k = x1 := Fin.ext h1
    refine (pay23_at _ _ _ _ _ _ _ x0 k).trans ?_
    rw [read_unread_whole]
    pointwise

/-- Every point holds the normed rows of its row block. -/
theorem rows (n : ℕ) (hn : n < cfg0.N) (a : Fin 1024) (k : Fin 2048) :
    (show EReal from (outsAt0 m c n hn).2.2.2 (ix2 a k)) = H m c (n / 11 * 1024 + a.val) k := by
  induction n with
  | zero => exact rowA m c ⟨0, hn⟩ rfl a k
  | succ n ih =>
    by_cases h : (n + 1) % 11 = 0
    · exact rowA m c ⟨n + 1, hn⟩ h a k
    · rw [rowB m c ⟨n + 1, hn⟩ h, show (n + 1) / 11 = n / 11 by omega]
      exact ih _

/-- Up to the tile before the last the output block holds the parts so far. -/
theorem accs (n : ℕ) (hn : n < cfg0.N) (h10 : n % 11 ≠ 10) (a : Fin 1024) (k : Fin 2048) :
    (show EReal from (outsAt0 m c n hn).1 (ix2 a k)) = ∑ j ∈ Finset.range (n % 11 + 1), part m c (n / 11 * 1024 + a.val) j k := by
  induction n with
  | zero => simpa using accA m c ⟨0, hn⟩ rfl a k
  | succ n ih =>
    by_cases h : (n + 1) % 11 = 0
    · rw [h, Finset.sum_range_one]
      exact (accA m c ⟨n + 1, hn⟩ h a k).trans (by rw [show (⟨n + 1, hn⟩ : Fin cfg0.N).val % 11 = 0 from h])
    · have e : (n + 1) / 11 = n / 11 := by omega
      have e' : (n + 1) % 11 = n % 11 + 1 := by omega
      rw [Finset.sum_range_succ]
      refine (accB m c ⟨n + 1, hn⟩ h h10 (fun a k => (rows m c n _ a k).trans ?_) a k).trans ?_
      · dsimp only; rw [e]
      · have := ih (Nat.lt_of_succ_lt hn) (by omega)
        rw [e, e', ← this]
        rfl

/-- The branch summed over all 5632 hidden columns. -/
theorem parts_sum (r : ℕ) (k : Fin 2048) : ∑ j ∈ Finset.range 11, part m c r j k = ∑ f : Fin 5632, term m c r f.val k := by
  rw [Fin.sum_univ_tiles 11 512 rfl, Finset.sum_range]
  rfl

/-- At a row block's last point the output block holds the half step's rows. -/
theorem out_last (t : Fin cfg0.N) (ht : t.val % 11 = 10) (a : Fin 1024) (k : Fin 2048) :
    (show EReal from (outsAt0 m c t.val t.isLt).1 (ix2 a k))
      = outp (X m c (t.val / 11 * 1024 + a.val)) (fun j => ∑ f : Fin 5632, term m c (t.val / 11 * 1024 + a.val) f.val j) (W2 m c) k := by
  have e : (t.val - 1) / 11 = t.val / 11 := by omega
  have e' : (t.val - 1) % 11 = 9 := by omega
  rw [accC m c t ht (fun a k => (rows m c _ _ a k).trans (by rw [e])) a k]
  congr 1
  funext j
  rw [← parts_sum, Finset.sum_range_succ, accs m c _ _ (by omega) a j, e, e', ht]

/-- Every point casts its block of the other layer's gate and up weights. -/
theorem cast9 (t : Fin cfg0.N) (a : Fin 64) (b : Fin 1024) :
    (show EReal from (outsAt0 m c t.val t.isLt).2.1 (ix2 a b)) = iblk m c 6 t (ix3 0 a b) := by
  rcases (by omega : t.val % 11 = 0 ∨ (t.val % 11 ≠ 0 ∧ t.val % 11 ≠ 10) ∨ t.val % 11 = 10) with h | h | h
  · rw [outsAt0_A m c t h (by omega) (by omega)]; frame_out; pointwise [k0_pay3]
  · rw [outsAt0_B m c t h.1 (by omega) h.2]; frame_out; pointwise [k0_pay14]
  · rw [outsAt0_C m c t (by omega) (by omega) h]; frame_out; pointwise [k0_pay18]

/-- Every point casts its block of the other layer's down weights. -/
theorem cast10 (t : Fin cfg0.N) (a : Fin 16) (b : Fin 2048) :
    (show EReal from (outsAt0 m c t.val t.isLt).2.2.1 (ix2 a b)) = iblk m c 7 t (ix3 0 a b) := by
  rcases (by omega : t.val % 11 = 0 ∨ (t.val % 11 ≠ 0 ∧ t.val % 11 ≠ 10) ∨ t.val % 11 = 10) with h | h | h
  · rw [outsAt0_A m c t h (by omega) (by omega)]; frame_out; pointwise [k0_pay4]
  · rw [outsAt0_B m c t h.1 (by omega) h.2]; frame_out; pointwise [k0_pay15]
  · rw [outsAt0_C m c t (by omega) (by omega) h]; frame_out; pointwise [k0_pay19]

theorem idx' : ∀ t : Fin cfg0.N, win0_6.index t = ![0, t.val / 11, t.val % 11] ∧ win0_7.index t = ![0, t.val, 0]
    ∧ win0_8.index t = ![t.val / 11, 0] ∧ win0_9.index t = ![t.val / 11, t.val % 11] ∧ win0_10.index t = ![t.val, 0] :=
  (by decide +kernel : ∀ t : Fin grid0.N, _)

/-- The residual array after the half step. -/
def Y : S32768x2048.Idx → EReal := fun i =>
  outp (X m c (i 0).val) (fun j => ∑ f : Fin 5632, term m c (i 0).val f.val j) (W2 m c) (i 1)

theorem arr8 : (dats m 0 c).arrAt 8 (cfgs 0).N = Y m c := by
  refine (dats m 0 c).arrAt_eq_of_covers 8 _ (by decide +kernel) fun t hf y => ?_
  blk_simp
  rw [after0_8]
  idx_vars y
  refine (out_last m c t ((flush0_8 t).mp hf) y0 y1).trans ?_
  unfold Y
  blk_simp [idx' t]
  refine congrArg _ (Fin.ext ?_)
  blk_simp [idx' t]

theorem arr9 : (dats m 0 c).arrAt 9 (cfgs 0).N = fun i : S2048x11264.Idx => m ((c : Thread nD τ).loc main_arg5) (ix3 0 (i 0) (i 1)) := by
  refine (dats m 0 c).arrAt_eq_of_covers 9 _ (by decide +kernel) fun t hf y => ?_
  blk_simp
  rw [after0_9]
  idx_vars y
  refine (cast9 m c t y0 y1).trans ?_
  blk_point [iblk, V, idx' t]

theorem arr10 : (dats m 0 c).arrAt 10 (cfgs 0).N = fun i : S5632x2048.Idx => m ((c : Thread nD τ).loc main_arg6) (ix3 0 (i 0) (i 1)) := by
  refine (dats m 0 c).arrAt_eq_of_covers 10 _ (by decide +kernel) fun t hf y => ?_
  blk_simp
  rw [after0_10]
  idx_vars y
  refine (cast10 m c t y0 y1).trans ?_
  blk_point [iblk, V, idx' t]

end Cert.FfnIdeal.Val
-- ==== Proof.FfnPair.lean ====
module

public import proofs.«01_k».proof.Defs
public import proofs.«01_k».proof.Proof.Gen.FfnIdeal
public import proofs.«01_k».proof.Proof.Gen.FfnRefIdeal
public import proofs.«01_k».proof.Proof.FfnValue
public import Idealize.ShloMosaic.Lib.Claim

/-! # The feed-forward half step: the kernel's three results are the reference's -/

@[expose] public section
set_option maxRecDepth 16384
noncomputable section

open Idealize.ShloMosaic Idealize.ShloMosaic.TcCoe Idealize.SL.Sem
open Idealize.ShloMosaic.Pipeline (Dat)

namespace Cert.FfnPair
open Cert.FfnSpec

/-- The reference's first result at the kernel's argument memory is the kernel's residual array. -/
theorem ref_eq (m : (ℓ : Loc FfnIdeal.nD FfnIdeal.τ FfnIdeal.sig) → Buf (Elt Ideal) ℓ)
    (m' : (ℓ : Loc FfnRefIdeal.nD FfnRefIdeal.τ FfnRefIdeal.sig) → Buf (Elt Ideal) ℓ) (c : Dev FfnIdeal.nD)
    (h0 : m' ((c.tc : Thread FfnRefIdeal.nD FfnRefIdeal.τ).loc FfnRefIdeal.main_arg0) = m ((c.tc : Thread FfnIdeal.nD FfnIdeal.τ).loc FfnIdeal.main_arg0))
    (h1 : m' ((c.tc : Thread FfnRefIdeal.nD FfnRefIdeal.τ).loc FfnRefIdeal.main_arg1) = m ((c.tc : Thread FfnIdeal.nD FfnIdeal.τ).loc FfnIdeal.main_arg1))
    (h2 : m' ((c.tc : Thread FfnRefIdeal.nD FfnRefIdeal.τ).loc FfnRefIdeal.main_arg2) = m ((c.tc : Thread FfnIdeal.nD FfnIdeal.τ).loc FfnIdeal.main_arg2))
    (h3 : m' ((c.tc : Thread FfnRefIdeal.nD FfnRefIdeal.τ).loc FfnRefIdeal.main_arg3) = m ((c.tc : Thread FfnIdeal.nD FfnIdeal.τ).loc FfnIdeal.main_arg3))
    (h4 : m' ((c.tc : Thread FfnRefIdeal.nD FfnRefIdeal.τ).loc FfnRefIdeal.main_arg4) = m ((c.tc : Thread FfnIdeal.nD FfnIdeal.τ).loc FfnIdeal.main_arg4)) :
    FfnRefIdeal.Value.res_main_v36 m' c = FfnIdeal.Val.Y m c := by
  funext i
  idx_vars i
  refine (FfnRefIdeal.Val.ref_at m' c i0 i1).trans ?_
  rw [h0, h1, h2, h3, h4]
  have e0 : Fin.ofNat 32768 i0.val = i0 := Fin.ext (FfnIdeal.Val.ofNat_val _ _ i0.isLt)
  unfold FfnIdeal.Val.Y FfnIdeal.Val.term FfnIdeal.Val.H FfnIdeal.Val.X FfnIdeal.Val.WC FfnIdeal.Val.WD FfnIdeal.Val.W1 FfnIdeal.Val.W2
  simp only [ix2_0, ix2_1, e0]
  refine congrFun (congrArg₂ (outp _) (funext fun j => Finset.sum_congr rfl fun f _ => ?_) rfl) _
  have e1 : Fin.ofNat 5632 f.val = f := Fin.ext (FfnIdeal.Val.ofNat_val _ _ f.isLt)
  have e2 : Fin.ofNat 11264 f.val = ⟨f.val, by omega⟩ := Fin.ext (FfnIdeal.Val.ofNat_val _ _ (by omega))
  have e3 : Fin.ofNat 11264 (5632 + f.val) = ⟨5632 + f.val, by omega⟩ := Fin.ext (FfnIdeal.Val.ofNat_val _ _ (by omega))
  rw [e1, e2, e3]

theorem algebraic : Cert.algebraic_FfnIdeal_FfnRefIdeal := by
  pair_intro
  · run_from Cert.FfnIdeal.Gen.run_main m g
  · run_from Cert.FfnRefIdeal.Value.run m' g'
    · obtain ⟨h0, h1, h2, h3, h4, -, -⟩ := hagree c
      exact (ref_eq m m' c h0 h1 h2 h3 h4).trans (FfnIdeal.Val.arr8 m c).symm
    · refine Eq.trans ?_ (FfnIdeal.Val.arr9 m c).symm
      funext i
      idx_vars i
      pointwise
    · refine Eq.trans ?_ (FfnIdeal.Val.arr10 m c).symm
      funext i
      idx_vars i
      pointwise

end Cert.FfnPair
-- ==== Proof.PleSpec.lean ====
module

public import proofs.«01_k».proof.Proof.FfnSpec
public import proofs.«01_k».proof.Proof.Gen.PleIdeal.Value
public import proofs.«01_k».proof.Proof.Gen.PleRefIdeal.Run
public import Idealize.ShloMosaic.Lib.Pipeline.ReadBack

/-! # The per-layer-input step on real numbers

One gate entry and the step's result entry as scalar functions, the payloads of the kernel's four row blocks and the
reference's term read at an index. -/

@[expose] public section
set_option maxRecDepth 16384
noncomputable section

open Idealize.ShloMosaic Idealize.ShloMosaic.TcCoe Idealize.SL.Sem
open Idealize.ShloMosaic.Pipeline (Dat)

namespace Cert.PleSpec
open Cert.FfnSpec

/-- One gate entry: the sigmoid of the normed row `h` against the gate column `g`, times the per-layer row `p` against `w`. -/
def gate (h : Fin 2048 → EReal) (p : Fin 256 → EReal) (g : Fin 2048 → EReal) (w : Fin 256 → EReal) : EReal :=
  Ideal.logistic (∑ l, h l * g l) * ∑ l, p l * w l

/-- The step's result entry with the row's mean square taken as a product: `x` the residual entry, `y` the gate entry,
    `s` the row's sum of squares, `n` the norm weight. -/
def fin (x y s n : EReal) : EReal :=
  x + y * Ideal.rsqrt (s * Ideal.ofBits .f32 0x3A000000#32 + Ideal.ofBits .f32 0x358637BD#32) * n

/-- The sum of squares of the four column chunks, in the order the body adds them. -/
def sq (q0 q1 q2 q3 : Fin 512 → EReal) : EReal :=
  (∑ f, q0 f * q0 f) + (∑ f, q1 f * q1 f) + (∑ f, q2 f * q2 f) + (∑ f, q3 f * q3 f)

theorem c2048 : Ideal.ofBits .f32 0x45000000#32 = ((2048 : ℝ) : EReal) := by
  simp [Ideal.ofBits, Ideal.ieee, -EReal.coe_mul]; norm_num

theorem c2048inv : Ideal.ofBits .f32 0x3A000000#32 = ((1 / 2048 : ℝ) : EReal) := by
  simp [Ideal.ofBits, Ideal.ieee, -EReal.coe_mul]; norm_num

/-- Multiplying by the reciprocal of the width is dividing by the width. -/
theorem mean_eq (s : EReal) : s * Ideal.ofBits .f32 0x3A000000#32 = Ideal.div s (Ideal.ofBits .f32 0x45000000#32) := by
  rw [c2048, c2048inv, Ideal.div_coe (by norm_num : (2048 : ℝ) ≠ 0)]

/-- The result entry over the four column chunks is the residual plus the norm of the whole gate row. -/
theorem fin_eq (x : EReal) (q n : Fin 2048 → EReal) (k : Fin 2048) :
    fin x (q k) (sq (fun f => q ⟨f.val, by omega⟩) (fun f => q ⟨512 + f.val, by omega⟩) (fun f => q ⟨1024 + f.val, by omega⟩)
      (fun f => q ⟨1536 + f.val, by omega⟩)) (n k) = x + nrm q n k := by
  unfold fin sq nrm
  rw [mean_eq, Fin.sum_univ_tiles 4 512 rfl (fun l : Fin 2048 => q l * q l), Fin.sum_univ_four]
  rfl

end Cert.PleSpec

namespace Cert.PleIdeal.Val
open Cert.PleIdeal Cert.PleIdeal.Gen Cert.FfnSpec Cert.PleSpec

/-- The gate entries of one column chunk at a row, as the body computes them from its loads. -/
def chunk (a : Vec Ideal S256x2048 .f32) (b : Vec Ideal S1x2048 .f32) (p : Vec Ideal S1x256x256 .f32) (g : Vec Ideal S2048x512 .bf16)
    (w : Vec Ideal S256x512 .bf16) (r : Fin 256) (f : Fin 512) : EReal :=
  gate (nrm (fun l => a (ix2 r l)) fun l => b (ix2 0 l)) (fun l => p (ix3 0 r l)) (fun l => g (ix2 l f)) (fun l => w (ix2 l f))

/-- The first row block's first column chunk. -/
theorem chunk00 (a b p g w) (r : Fin 256) (f : Fin 512) : k0_pay4 (F := Ideal) a b p g w (ix2 r f) = chunk a b p g w r f := by
  pointwise [k0_pay4, k0_pay2, k0_pay3]
  rfl

/-- The first row block's second column chunk. -/
theorem chunk01 (a b p g w) (r : Fin 256) (f : Fin 512) : k0_pay7 (F := Ideal) (k0_pay3 p) (k0_pay6 a b g) w (ix2 r f) = chunk a b p g w r f := by
  pointwise [k0_pay7, k0_pay3, k0_pay6, k0_pay2]
  rfl

/-- The first row block's third column chunk. -/
theorem chunk02 (a b p g w) (r : Fin 256) (f : Fin 512) : k0_pay8 (F := Ideal) (k0_pay2 a b) (k0_pay3 p) g w (ix2 r f) = chunk a b p g w r f := by
  pointwise [k0_pay8, k0_pay2, k0_pay3]
  rfl

/-- The first row block's fourth column chunk. -/
theorem chunk03 (a b p g w) (r : Fin 256) (f : Fin 512) : k0_pay9 (F := Ideal) (k0_pay2 a b) (k0_pay3 p) g w (ix2 r f) = chunk a b p g w r f := by
  pointwise [k0_pay9, k0_pay2, k0_pay3]
  rfl

/-- The first row block's result rows. -/
theorem fin0 (a b p g0 w0 g1 w1 g2 w2 g3 w3 x y n) (r : Fin 256) (k : Fin 2048) :
    k0_pay11 (F := Ideal) (k0_pay10 (k0_pay2 a b) (k0_pay3 p) (k0_pay5 a b p g0 w0) (k0_pay6 a b g1) w1 g2 w2 g3 w3) (Scalar.ofBits .f32 0x358637BD#32) x y n (ix2 r k)
      = fin (x (ix2 r k)) (y (ix2 r k)) (sq (chunk a b p g0 w0 r) (chunk a b p g1 w1 r) (chunk a b p g2 w2 r) (chunk a b p g3 w3 r)) (n (ix2 0 k)) := by
  pointwise [k0_pay11, k0_pay10, k0_pay2, k0_pay3, k0_pay5, k0_pay6, k0_pay7, k0_pay8, k0_pay9, k0_pay4]
  rfl

/-- The second row block's first column chunk. -/
theorem chunk10 (a b p g w) (r : Fin 256) (f : Fin 512) : k0_pay16 (F := Ideal) (k0_pay13 p) (k0_pay15 a b g) w (ix2 r f) = chunk a b p g w r f := by
  pointwise [k0_pay16, k0_pay13, k0_pay15, k0_pay12]
  rfl

/-- The second row block's second column chunk. -/
theorem chunk11 (a b p g w) (r : Fin 256) (f : Fin 512) : k0_pay17 (F := Ideal) (k0_pay12 a b) (k0_pay13 p) g w (ix2 r f) = chunk a b p g w r f := by
  pointwise [k0_pay17, k0_pay12, k0_pay13]
  rfl

/-- The second row block's third column chunk. -/
theorem chunk12 (a b p g w) (r : Fin 256) (f : Fin 512) : k0_pay18 (F := Ideal) (k0_pay12 a b) (k0_pay13 p) g w (ix2 r f) = chunk a b p g w r f := by
  pointwise [k0_pay18, k0_pay12, k0_pay13]
  rfl

/-- The second row block's fourth column chunk. -/
theorem chunk13 (a b p g w) (r : Fin 256) (f : Fin 512) : k0_pay20 (F := Ideal) (k0_pay12 a b) (k0_pay13 p) g w (ix2 r f) = chunk a b p g w r f := by
  pointwise [k0_pay20, k0_pay12, k0_pay13]
  rfl

/-- The second row block's result rows. -/
theorem fin1 (a b p g0 w0 g1 w1 g2 w2 g3 w3 x y n) (r : Fin 256) (k : Fin 2048) :
    k0_pay21 (F := Ideal) (k0_pay12 a b) (k0_pay13 p) (k0_pay19 (k0_pay12 a b) (k0_pay13 p) k0_pay14 (k0_pay15 a b g0) w0 g1 w1 g2 w2) g3 w3 x y n (ix2 r k)
      = fin (x (ix2 r k)) (y (ix2 r k)) (sq (chunk a b p g0 w0 r) (chunk a b p g1 w1 r) (chunk a b p g2 w2 r) (chunk a b p g3 w3 r)) (n (ix2 0 k)) := by
  pointwise [k0_pay21, k0_pay12, k0_pay13, k0_pay19, k0_pay14, k0_pay15, k0_pay20, k0_pay16, k0_pay17, k0_pay18]
  rfl

/-- The third row block's first column chunk. -/
theorem chunk20 (a b p g w) (r : Fin 256) (f : Fin 512) : k0_pay26 (F := Ideal) a (k0_pay22 b) (k0_pay23 a) (Scalar.ofBits .f32 0x358637BD#32) p g w (ix2 r f) = chunk a b p g w r f := by
  pointwise [k0_pay26, k0_pay22, k0_pay23, k0_pay24, k0_pay25]
  rfl

/-- The third row block's second column chunk. -/
theorem chunk21 (a b p g w) (r : Fin 256) (f : Fin 512) : k0_pay27 (F := Ideal) a (k0_pay22 b) (k0_pay23 a) (Scalar.ofBits .f32 0x358637BD#32) p g w (ix2 r f) = chunk a b p g w r f := by
  pointwise [k0_pay27, k0_pay22, k0_pay23, k0_pay24, k0_pay25]
  rfl

/-- The third row block's third column chunk. -/
theorem chunk22 (a b p g w) (r : Fin 256) (f : Fin 512) : k0_pay29 (F := Ideal) (k0_pay24 a (k0_pay22 b) (k0_pay23 a) (Scalar.ofBits .f32 0x358637BD#32)) (k0_pay25 p) g w (ix2 r f) = chunk a b p g w r f := by
  pointwise [k0_pay29, k0_pay24, k0_pay22, k0_pay23, k0_pay25]
  rfl

/-- The third row block's fourth column chunk. -/
theorem chunk23 (a b p g w) (r : Fin 256) (f : Fin 512) : k0_pay30 (F := Ideal) (k0_pay24 a (k0_pay22 b) (k0_pay23 a) (Scalar.ofBits .f32 0x358637BD#32)) (k0_pay25 p) g w (ix2 r f) = chunk a b p g w r f := by
  pointwise [k0_pay30, k0_pay24, k0_pay22, k0_pay23, k0_pay25]
  rfl

/-- The third row block's result rows. -/
theorem fin2 (a b p g0 w0 g1 w1 g2 w2 g3 w3 x y n) (r : Fin 256) (k : Fin 2048) :
    k0_pay33 (F := Ideal) x (k0_pay31 (k0_pay24 a (k0_pay22 b) (k0_pay23 a) (Scalar.ofBits .f32 0x358637BD#32)) (k0_pay25 p) (k0_pay28 a (k0_pay22 b) (k0_pay23 a) (Scalar.ofBits .f32 0x358637BD#32) p g0 w0 g1 w1) g2 w2 g3 w3 y) (k0_pay32 n) (ix2 r k)
      = fin (x (ix2 r k)) (y (ix2 r k)) (sq (chunk a b p g0 w0 r) (chunk a b p g1 w1 r) (chunk a b p g2 w2 r) (chunk a b p g3 w3 r)) (n (ix2 0 k)) := by
  pointwise [k0_pay33, k0_pay31, k0_pay24, k0_pay22, k0_pay23, k0_pay25, k0_pay28, k0_pay32, k0_pay29, k0_pay30, k0_pay26, k0_pay27]
  rfl

/-- The fourth row block's first column chunk. -/
theorem chunk30 (a b p g w) (r : Fin 256) (f : Fin 512) : k0_pay36 (F := Ideal) a b p g w (ix2 r f) = chunk a b p g w r f := by
  pointwise [k0_pay36, k0_pay34, k0_pay35]
  rfl

/-- The fourth row block's second column chunk. -/
theorem chunk31 (a b p g w) (r : Fin 256) (f : Fin 512) : k0_pay38 (F := Ideal) (k0_pay34 a b) (k0_pay35 p) g w (ix2 r f) = chunk a b p g w r f := by
  pointwise [k0_pay38, k0_pay34, k0_pay35]
  rfl

/-- The fourth row block's third column chunk. -/
theorem chunk32 (a b p g w) (r : Fin 256) (f : Fin 512) : k0_pay39 (F := Ideal) (k0_pay34 a b) (k0_pay35 p) g w (ix2 r f) = chunk a b p g w r f := by
  pointwise [k0_pay39, k0_pay34, k0_pay35]
  rfl

/-- The fourth row block's fourth column chunk. -/
theorem chunk33 (a b p g w) (r : Fin 256) (f : Fin 512) : k0_pay40 (F := Ideal) (k0_pay34 a b) (k0_pay35 p) g w (ix2 r f) = chunk a b p g w r f := by
  pointwise [k0_pay40, k0_pay34, k0_pay35]
  rfl

/-- The fourth row block's result rows. -/
theorem fin3 (a b p g0 w0 g1 w1 g2 w2 g3 w3 x y n) (r : Fin 256) (k : Fin 2048) :
    k0_pay1 (F := Ideal) (k0_pay41 (k0_pay34 a b) (k0_pay35 p) (k0_pay37 a b p g0 w0) g1 w1 g2 w2 g3 w3) x y n (ix2 r k)
      = fin (x (ix2 r k)) (y (ix2 r k)) (sq (chunk a b p g0 w0 r) (chunk a b p g1 w1 r) (chunk a b p g2 w2 r) (chunk a b p g3 w3 r)) (n (ix2 0 k)) := by
  pointwise [k0_pay1, k0_pay41, k0_pay34, k0_pay35, k0_pay37, k0_pay38, k0_pay39, k0_pay40, k0_pay36]
  rfl

end Cert.PleIdeal.Val

namespace Cert.PleRefIdeal.Val
open Cert.PleRefIdeal Cert.FfnSpec Cert.PleSpec

/-- The reference's result, read at an entry. -/
theorem ref_at (m : (ℓ : Loc nD τ sig) → Buf (Elt Ideal) ℓ) (c : Dev nD) (r : Fin 32768) (k : Fin 2048) :
    (show EReal from Value.res_main_v39 m c (ix2 r k))
      = (show EReal from m ((c.tc : Thread nD τ).loc main_arg0) (ix2 r k)) + nrm (fun j => gate (nrm (fun l => m ((c.tc : Thread nD τ).loc main_arg0) (ix2 r l))
            fun l => m ((c.tc : Thread nD τ).loc main_arg2) (ix1 l)) (fun l => m ((c.tc : Thread nD τ).loc main_arg1) (ix3 1 r l))
            (fun l => m ((c.tc : Thread nD τ).loc main_arg3) (ix2 l j)) (fun l => m ((c.tc : Thread nD τ).loc main_arg4) (ix2 l j)))
          (fun l => m ((c.tc : Thread nD τ).loc main_arg5) (ix1 l)) k := by
  pointwise [Value.res_main_v39]
  rfl

end Cert.PleRefIdeal.Val
-- ==== Proof.PleValue.lean ====
module

public import proofs.«01_k».proof.Proof.PleSpec
public import Idealize.ShloMosaic.Lib.Pipeline.ReadBack

/-! # What the per-layer-input kernel's array holds

The blocks a grid point reads as entries of the arguments, the row block it leaves, and the result array. -/

@[expose] public section
set_option maxRecDepth 16384
noncomputable section

open Idealize.ShloMosaic Idealize.ShloMosaic.TcCoe Idealize.SL.Sem
open Idealize.ShloMosaic.Pipeline (Dat)

namespace Cert.PleIdeal.Val
open Cert.PleIdeal Cert.PleIdeal.Gen Cert.FfnSpec Cert.PleSpec

variable (m : (ℓ : Loc nD τ sig) → Buf (Elt Ideal) ℓ) (c : Dev nD)

/-- The residual rows, addressed by a natural row number. -/
def X (r : ℕ) (k : Fin 2048) : EReal := m ((c : Thread nD τ).loc main_arg0) (ix2 (Fin.ofNat 32768 r) k)
/-- The per-layer rows of the layer taken. -/
def P (r : ℕ) (k : Fin 256) : EReal := m ((c : Thread nD τ).loc main_arg1) (ix3 1 (Fin.ofNat 32768 r) k)
/-- The first norm's weights. -/
def W1 (k : Fin 2048) : EReal := m ((c : Thread nD τ).loc main_arg2) (ix1 k)
/-- The second norm's weights. -/
def W2 (k : Fin 2048) : EReal := m ((c : Thread nD τ).loc main_arg5) (ix1 k)
/-- The gate row `r`. -/
def Q (r : ℕ) (j : Fin 2048) : EReal :=
  gate (nrm (X m c r) (W1 m c)) (P m c r) (fun l => m ((c : Thread nD τ).loc main_arg3) (ix2 l j)) (fun l => m ((c : Thread nD τ).loc main_arg4) (ix2 l j))

theorem idx : ∀ t : Fin cfg0.N, win0_0.index t = ![t.val, 0] ∧ win0_1.index t = ![1, t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem ofNat_val (n a : ℕ) [NeZero n] (h : a < n) : (Fin.ofNat n a).val = a := Nat.mod_eq_of_lt h

theorem blk0 (t : Fin cfg0.N) (a : Fin 1024) (k : Fin 2048) :
    (show EReal from iblk m c 0 t (ix2 a k)) = X m c (t.val * 1024 + a.val) k := by
  have hN : t.val < 32 := lt_of_lt_of_eq t.isLt N_0
  have hr := ofNat_val 32768 (t.val * 1024 + a.val) (by omega)
  unfold X
  blk_point [iblk, V, idx t]

theorem blk1 (t : Fin cfg0.N) (a : Fin 1024) (k : Fin 256) :
    (show EReal from iblk m c 1 t (ix3 0 a k)) = P m c (t.val * 1024 + a.val) k := by
  have hN : t.val < 32 := lt_of_lt_of_eq t.isLt N_0
  have hr := ofNat_val 32768 (t.val * 1024 + a.val) (by omega)
  unfold P
  blk_point [iblk, V, idx t]

theorem blk2 (t : Fin cfg0.N) (k : Fin 2048) : (show EReal from iblk m c 2 t (ix2 0 k)) = W1 m c k := by
  unfold W1
  blk_point [iblk, V, idx t]

theorem blk3 (t : Fin cfg0.N) (a : Fin 2048) (k : Fin 2048) :
    (show EReal from iblk m c 3 t (ix2 a k)) = m ((c : Thread nD τ).loc main_arg3) (ix2 a k) := by
  blk_point [iblk, V, idx t]

theorem blk4 (t : Fin cfg0.N) (a : Fin 256) (k : Fin 2048) :
    (show EReal from iblk m c 4 t (ix2 a k)) = m ((c : Thread nD τ).loc main_arg4) (ix2 a k) := by
  blk_point [iblk, V, idx t]

theorem blk5 (t : Fin cfg0.N) (k : Fin 2048) : (show EReal from iblk m c 5 t (ix2 0 k)) = W2 m c k := by
  unfold W2
  blk_point [iblk, V, idx t]

/-- A gate row as the body computes it from the point's blocks. -/
def q (t : Fin cfg0.N) (a : Fin 1024) (j : Fin 2048) : EReal :=
  gate (nrm (fun l => iblk m c 0 t (ix2 a l)) fun l => iblk m c 2 t (ix2 0 l)) (fun l => iblk m c 1 t (ix3 0 a l))
    (fun l => iblk m c 3 t (ix2 l j)) (fun l => iblk m c 4 t (ix2 l j))

theorem q_eq (t : Fin cfg0.N) (a : Fin 1024) : q m c t a = Q m c (t.val * 1024 + a.val) := by
  funext j
  unfold q Q
  rw [funext fun l => blk0 m c t a l, funext fun l => blk1 m c t a l, funext fun l => blk2 m c t l, funext fun l => blk3 m c t l j, funext fun l => blk4 m c t l j]

/-- Equal parts give equal result entries. -/
theorem fin_congr {x x' y y' s s' n n' : EReal} (hx : x = x') (hy : y = y') (hs : s = s') (hn : n = n') : fin x y s n = fin x' y' s' n' := by
  rw [hx, hy, hs, hn]

theorem sq_congr {a a' b b' d d' e e' : Fin 512 → EReal} (ha : ∀ f, a f = a' f) (hb : ∀ f, b f = b' f) (hd : ∀ f, d f = d' f) (he : ∀ f, e f = e' f) :
    PleSpec.sq a b d e = PleSpec.sq a' b' d' e' := by
  rw [funext ha, funext hb, funext hd, funext he]

/-- A store that misses the entry leaves it to the earlier stores. -/
theorem canon_miss {off size : Fin S1024x2048.rank → ℕ} (inb) (w) (L : List (View.Piece (Elt Ideal) S1024x2048 .f32)) (y : S1024x2048.Idx) (d : Fin 2)
    (h : (y d).val < off d ∨ off d + size d ≤ (y d).val) : View.canon (⟨Rect.unit off size inb, w⟩ :: L) y = View.canon L y := by
  refine View.canon_cons_of_not_mem _ _ fun hm => ?_
  have := (Rect.mem_set_unit (inb := inb)).mp hm d
  omega

/-- A store that holds the entry gives it. -/
theorem canon_take {off size : Fin S1024x2048.rank → ℕ} (inb) (w) (L : List (View.Piece (Elt Ideal) S1024x2048 .f32)) (y : S1024x2048.Idx)
    (x : (Rect.unit off size inb).shape.Idx) (h : ∀ a, (y a).val = off a + (x a).val) : View.canon (⟨Rect.unit off size inb, w⟩ :: L) y = w x := by
  have e : y = (Rect.unit off size inb).emb x := funext fun a => Fin.ext (by rw [h a, Rect.emb_apply]; show _ = off a + 1 * (x a).val; omega)
  rw [e, View.canon_cons_emb]

/-- The row block a point leaves: the residual rows plus the normed gate rows. -/
theorem out_at (t : Fin cfg0.N) (a : Fin 1024) (k : Fin 2048) :
    (show EReal from outsAt0 m c t (ix2 a k)) = X m c (t.val * 1024 + a.val) k + nrm (Q m c (t.val * 1024 + a.val)) (W2 m c) k := by
  rw [← q_eq, ← funext fun l => blk5 m c t l, ← blk0 m c t a k, ← fin_eq]
  unfold outsAt0
  frame_out
  rcases (by omega : 768 ≤ a.val ∨ (512 ≤ a.val ∧ a.val < 768) ∨ (256 ≤ a.val ∧ a.val < 512) ∨ a.val < 256) with h | h | h | h
  · obtain ⟨r, hx⟩ : ∃ r : Fin 256, a.val = 768 + r.val := ⟨⟨a.val - 768, by omega⟩, by dsimp only; omega⟩
    clear h
    refine (canon_take _ _ _ _ (ix2 r k) (fun d => by
      fin_cases d
      · show a.val = _ + r.val; exact hx
      · show k.val = 0 + k.val; omega)).trans ?_
    have hb : 768 + r.val < 1024 := by clear hx; omega
    obtain rfl : a = ⟨768 + r.val, hb⟩ := Fin.ext hx
    clear hx
    refine (fin3 _ _ _ _ _ _ _ _ _ _ _ _ _ _ r k).trans ?_
    refine fin_congr ?_ ?_ (sq_congr (fun f => ?_) (fun f => ?_) (fun f => ?_) (fun f => ?_)) ?_
    all_goals try unfold chunk q
    rotate_left 1
    · rw [View.readCov_eq_canon']
      show View.canon _ _ = _
      rcases (by omega : 1536 ≤ k.val ∨ (1024 ≤ k.val ∧ k.val < 1536) ∨ (512 ≤ k.val ∧ k.val < 1024) ∨ k.val < 512) with h | h | h | h
      · obtain ⟨f, hf⟩ : ∃ f : Fin 512, k.val = 1536 + f.val := ⟨⟨k.val - 1536, by omega⟩, by dsimp only; omega⟩
        clear h
        refine (canon_take _ _ _ _ (ix2 r f) (fun d => by
          fin_cases d
          · show 768 + 1 * r.val = 768 + r.val; omega
          · show 0 + 1 * k.val = 1536 + f.val; omega)).trans ?_
        have hk : 1536 + f.val < 2048 := by clear hf; omega
        obtain rfl : k = ⟨1536 + f.val, hk⟩ := Fin.ext hf
        refine (chunk33 _ _ _ _ _ r f).trans ?_
        unfold chunk q
        pointwise
      · obtain ⟨f, hf⟩ : ∃ f : Fin 512, k.val = 1024 + f.val := ⟨⟨k.val - 1024, by omega⟩, by dsimp only; omega⟩
        clear h
        refine (canon_miss _ _ _ _ 1 (Or.inl (by show 0 + 1 * k.val < 1536; omega))).trans ?_
        refine (canon_take _ _ _ _ (ix2 r f) (fun d => by
          fin_cases d
          · show 768 + 1 * r.val = 768 + r.val; omega
          · show 0 + 1 * k.val = 1024 + f.val; omega)).trans ?_
        have hk : 1024 + f.val < 2048 := by clear hf; omega
        obtain rfl : k = ⟨1024 + f.val, hk⟩ := Fin.ext hf
        refine (chunk32 _ _ _ _ _ r f).trans ?_
        unfold chunk q
        pointwise
      · obtain ⟨f, hf⟩ : ∃ f : Fin 512, k.val = 512 + f.val := ⟨⟨k.val - 512, by omega⟩, by dsimp only; omega⟩
        clear h
        refine (canon_miss _ _ _ _ 1 (Or.inl (by show 0 + 1 * k.val < 1536; omega))).trans ?_
        refine (canon_miss _ _ _ _ 1 (Or.inl (by show 0 + 1 * k.val < 1024; omega))).trans ?_
        refine (canon_take _ _ _ _ (ix2 r f) (fun d => by
          fin_cases d
          · show 768 + 1 * r.val = 768 + r.val; omega
          · show 0 + 1 * k.val = 512 + f.val; omega)).trans ?_
        have hk : 512 + f.val < 2048 := by clear hf; omega
        obtain rfl : k = ⟨512 + f.val, hk⟩ := Fin.ext hf
        refine (chunk31 _ _ _ _ _ r f).trans ?_
        unfold chunk q
        pointwise
      · obtain ⟨f, hf⟩ : ∃ f : Fin 512, k.val = 0 + f.val := ⟨⟨k.val - 0, by omega⟩, by dsimp only; omega⟩
        clear h
        refine (canon_miss _ _ _ _ 1 (Or.inl (by show 0 + 1 * k.val < 1536; omega))).trans ?_
        refine (canon_miss _ _ _ _ 1 (Or.inl (by show 0 + 1 * k.val < 1024; omega))).trans ?_
        refine (canon_miss _ _ _ _ 1 (Or.inl (by show 0 + 1 * k.val < 512; omega))).trans ?_
        refine (canon_take _ _ _ _ (ix2 r f) (fun d => by
          fin_cases d
          · show 768 + 1 * r.val = 768 + r.val; omega
          · show 0 + 1 * k.val = 0 + f.val; omega)).trans ?_
        have hk : 0 + f.val < 2048 := by clear hf; omega
        obtain rfl : k = ⟨0 + f.val, hk⟩ := Fin.ext hf
        refine (chunk30 _ _ _ _ _ r f).trans ?_
        unfold chunk q
        pointwise
    all_goals pointwise
  · obtain ⟨r, hx⟩ : ∃ r : Fin 256, a.val = 512 + r.val := ⟨⟨a.val - 512, by omega⟩, by dsimp only; omega⟩
    clear h
    refine (canon_miss _ _ _ _ 0 (Or.inl (by show a.val < 768; omega))).trans ?_
    refine (canon_miss _ _ _ _ 0 (Or.inl (by show a.val < 768; omega))).trans ?_
    refine (canon_miss _ _ _ _ 0 (Or.inl (by show a.val < 768; omega))).trans ?_
    refine (canon_miss _ _ _ _ 0 (Or.inl (by show a.val < 768; omega))).trans ?_
    refine (canon_miss _ _ _ _ 0 (Or.inl (by show a.val < 768; omega))).trans ?_
    refine (canon_take _ _ _ _ (ix2 r k) (fun d => by
      fin_cases d
      · show a.val = _ + r.val; exact hx
      · show k.val = 0 + k.val; omega)).trans ?_
    have hb : 512 + r.val < 1024 := by clear hx; omega
    obtain rfl : a = ⟨512 + r.val, hb⟩ := Fin.ext hx
    clear hx
    refine (fin2 _ _ _ _ _ _ _ _ _ _ _ _ _ _ r k).trans ?_
    refine fin_congr ?_ ?_ (sq_congr (fun f => ?_) (fun f => ?_) (fun f => ?_) (fun f => ?_)) ?_
    all_goals try unfold chunk q
    rotate_left 1
    · rw [View.readCov_eq_canon']
      show View.canon _ _ = _
      rcases (by omega : 1536 ≤ k.val ∨ (1024 ≤ k.val ∧ k.val < 1536) ∨ (512 ≤ k.val ∧ k.val < 1024) ∨ k.val < 512) with h | h | h | h
      · obtain ⟨f, hf⟩ : ∃ f : Fin 512, k.val = 1536 + f.val := ⟨⟨k.val - 1536, by omega⟩, by dsimp only; omega⟩
        clear h
        refine (canon_take _ _ _ _ (ix2 r f) (fun d => by
          fin_cases d
          · show 512 + 1 * r.val = 512 + r.val; omega
          · show 0 + 1 * k.val = 1536 + f.val; omega)).trans ?_
        have hk : 1536 + f.val < 2048 := by clear hf; omega
        obtain rfl : k = ⟨1536 + f.val, hk⟩ := Fin.ext hf
        refine (chunk23 _ _ _ _ _ r f).trans ?_
        unfold chunk q
        pointwise
      · obtain ⟨f, hf⟩ : ∃ f : Fin 512, k.val = 1024 + f.val := ⟨⟨k.val - 1024, by omega⟩, by dsimp only; omega⟩
        clear h
        refine (canon_miss _ _ _ _ 1 (Or.inl (by show 0 + 1 * k.val < 1536; omega))).trans ?_
        refine (canon_take _ _ _ _ (ix2 r f) (fun d => by
          fin_cases d
          · show 512 + 1 * r.val = 512 + r.val; omega
          · show 0 + 1 * k.val = 1024 + f.val; omega)).trans ?_
        have hk : 1024 + f.val < 2048 := by clear hf; omega
        obtain rfl : k = ⟨1024 + f.val, hk⟩ := Fin.ext hf
        refine (chunk22 _ _ _ _ _ r f).trans ?_
        unfold chunk q
        pointwise
      · obtain ⟨f, hf⟩ : ∃ f : Fin 512, k.val = 512 + f.val := ⟨⟨k.val - 512, by omega⟩, by dsimp only; omega⟩
        clear h
        refine (canon_miss _ _ _ _ 1 (Or.inl (by show 0 + 1 * k.val < 1536; omega))).trans ?_
        refine (canon_miss _ _ _ _ 1 (Or.inl (by show 0 + 1 * k.val < 1024; omega))).trans ?_
        refine (canon_take _ _ _ _ (ix2 r f) (fun d => by
          fin_cases d
          · show 512 + 1 * r.val = 512 + r.val; omega
          · show 0 + 1 * k.val = 512 + f.val; omega)).trans ?_
        have hk : 512 + f.val < 2048 := by clear hf; omega
        obtain rfl : k = ⟨512 + f.val, hk⟩ := Fin.ext hf
        refine (chunk21 _ _ _ _ _ r f).trans ?_
        unfold chunk q
        pointwise
      · obtain ⟨f, hf⟩ : ∃ f : Fin 512, k.val = 0 + f.val := ⟨⟨k.val - 0, by omega⟩, by dsimp only; omega⟩
        clear h
        refine (canon_miss _ _ _ _ 1 (Or.inl (by show 0 + 1 * k.val < 1536; omega))).trans ?_
        refine (canon_miss _ _ _ _ 1 (Or.inl (by show 0 + 1 * k.val < 1024; omega))).trans ?_
        refine (canon_miss _ _ _ _ 1 (Or.inl (by show 0 + 1 * k.val < 512; omega))).trans ?_
        refine (canon_take _ _ _ _ (ix2 r f) (fun d => by
          fin_cases d
          · show 512 + 1 * r.val = 512 + r.val; omega
          · show 0 + 1 * k.val = 0 + f.val; omega)).trans ?_
        have hk : 0 + f.val < 2048 := by clear hf; omega
        obtain rfl : k = ⟨0 + f.val, hk⟩ := Fin.ext hf
        refine (chunk20 _ _ _ _ _ r f).trans ?_
        unfold chunk q
        pointwise
    all_goals pointwise
  · obtain ⟨r, hx⟩ : ∃ r : Fin 256, a.val = 256 + r.val := ⟨⟨a.val - 256, by omega⟩, by dsimp only; omega⟩
    clear h
    refine (canon_miss _ _ _ _ 0 (Or.inl (by show a.val < 768; omega))).trans ?_
    refine (canon_miss _ _ _ _ 0 (Or.inl (by show a.val < 768; omega))).trans ?_
    refine (canon_miss _ _ _ _ 0 (Or.inl (by show a.val < 768; omega))).trans ?_
    refine (canon_miss _ _ _ _ 0 (Or.inl (by show a.val < 768; omega))).trans ?_
    refine (canon_miss _ _ _ _ 0 (Or.inl (by show a.val < 768; omega))).trans ?_
    refine (canon_miss _ _ _ _ 0 (Or.inl (by show a.val < 512; omega))).trans ?_
    refine (canon_miss _ _ _ _ 0 (Or.inl (by show a.val < 512; omega))).trans ?_
    refine (canon_miss _ _ _ _ 0 (Or.inl (by show a.val < 512; omega))).trans ?_
    refine (canon_miss _ _ _ _ 0 (Or.inl (by show a.val < 512; omega))).trans ?_
    refine (canon_miss _ _ _ _ 0 (Or.inl (by show a.val < 512; omega))).trans ?_
    refine (canon_take _ _ _ _ (ix2 r k) (fun d => by
      fin_cases d
      · show a.val = _ + r.val; exact hx
      · show k.val = 0 + k.val; omega)).trans ?_
    have hb : 256 + r.val < 1024 := by clear hx; omega
    obtain rfl : a = ⟨256 + r.val, hb⟩ := Fin.ext hx
    clear hx
    refine (fin1 _ _ _ _ _ _ _ _ _ _ _ _ _ _ r k).trans ?_
    refine fin_congr ?_ ?_ (sq_congr (fun f => ?_) (fun f => ?_) (fun f => ?_) (fun f => ?_)) ?_
    all_goals try unfold chunk q
    rotate_left 1
    · rw [View.readCov_eq_canon']
      show View.canon _ _ = _
      rcases (by omega : 1536 ≤ k.val ∨ (1024 ≤ k.val ∧ k.val < 1536) ∨ (512 ≤ k.val ∧ k.val < 1024) ∨ k.val < 512) with h | h | h | h
      · obtain ⟨f, hf⟩ : ∃ f : Fin 512, k.val = 1536 + f.val := ⟨⟨k.val - 1536, by omega⟩, by dsimp only; omega⟩
        clear h
        refine (canon_take _ _ _ _ (ix2 r f) (fun d => by
          fin_cases d
          · show 256 + 1 * r.val = 256 + r.val; omega
          · show 0 + 1 * k.val = 1536 + f.val; omega)).trans ?_
        have hk : 1536 + f.val < 2048 := by clear hf; omega
        obtain rfl : k = ⟨1536 + f.val, hk⟩ := Fin.ext hf
        refine (chunk13 _ _ _ _ _ r f).trans ?_
        unfold chunk q
        pointwise
      · obtain ⟨f, hf⟩ : ∃ f : Fin 512, k.val = 1024 + f.val := ⟨⟨k.val - 1024, by omega⟩, by dsimp only; omega⟩
        clear h
        refine (canon_miss _ _ _ _ 1 (Or.inl (by show 0 + 1 * k.val < 1536; omega))).trans ?_
        refine (canon_take _ _ _ _ (ix2 r f) (fun d => by
          fin_cases d
          · show 256 + 1 * r.val = 256 + r.val; omega
          · show 0 + 1 * k.val = 1024 + f.val; omega)).trans ?_
        have hk : 1024 + f.val < 2048 := by clear hf; omega
        obtain rfl : k = ⟨1024 + f.val, hk⟩ := Fin.ext hf
        refine (chunk12 _ _ _ _ _ r f).trans ?_
        unfold chunk q
        pointwise
      · obtain ⟨f, hf⟩ : ∃ f : Fin 512, k.val = 512 + f.val := ⟨⟨k.val - 512, by omega⟩, by dsimp only; omega⟩
        clear h
        refine (canon_miss _ _ _ _ 1 (Or.inl (by show 0 + 1 * k.val < 1536; omega))).trans ?_
        refine (canon_miss _ _ _ _ 1 (Or.inl (by show 0 + 1 * k.val < 1024; omega))).trans ?_
        refine (canon_take _ _ _ _ (ix2 r f) (fun d => by
          fin_cases d
          · show 256 + 1 * r.val = 256 + r.val; omega
          · show 0 + 1 * k.val = 512 + f.val; omega)).trans ?_
        have hk : 512 + f.val < 2048 := by clear hf; omega
        obtain rfl : k = ⟨512 + f.val, hk⟩ := Fin.ext hf
        refine (chunk11 _ _ _ _ _ r f).trans ?_
        unfold chunk q
        pointwise
      · obtain ⟨f, hf⟩ : ∃ f : Fin 512, k.val = 0 + f.val := ⟨⟨k.val - 0, by omega⟩, by dsimp only; omega⟩
        clear h
        refine (canon_miss _ _ _ _ 1 (Or.inl (by show 0 + 1 * k.val < 1536; omega))).trans ?_
        refine (canon_miss _ _ _ _ 1 (Or.inl (by show 0 + 1 * k.val < 1024; omega))).trans ?_
        refine (canon_miss _ _ _ _ 1 (Or.inl (by show 0 + 1 * k.val < 512; omega))).trans ?_
        refine (canon_take _ _ _ _ (ix2 r f) (fun d => by
          fin_cases d
          · show 256 + 1 * r.val = 256 + r.val; omega
          · show 0 + 1 * k.val = 0 + f.val; omega)).trans ?_
        have hk : 0 + f.val < 2048 := by clear hf; omega
        obtain rfl : k = ⟨0 + f.val, hk⟩ := Fin.ext hf
        refine (chunk10 _ _ _ _ _ r f).trans ?_
        unfold chunk q
        pointwise
    all_goals pointwise
  · obtain ⟨r, hx⟩ : ∃ r : Fin 256, a.val = 0 + r.val := ⟨⟨a.val, by omega⟩, by simp⟩
    clear h
    refine (canon_miss _ _ _ _ 0 (Or.inl (by show a.val < 768; omega))).trans ?_
    refine (canon_miss _ _ _ _ 0 (Or.inl (by show a.val < 768; omega))).trans ?_
    refine (canon_miss _ _ _ _ 0 (Or.inl (by show a.val < 768; omega))).trans ?_
    refine (canon_miss _ _ _ _ 0 (Or.inl (by show a.val < 768; omega))).trans ?_
    refine (canon_miss _ _ _ _ 0 (Or.inl (by show a.val < 768; omega))).trans ?_
    refine (canon_miss _ _ _ _ 0 (Or.inl (by show a.val < 512; omega))).trans ?_
    refine (canon_miss _ _ _ _ 0 (Or.inl (by show a.val < 512; omega))).trans ?_
    refine (canon_miss _ _ _ _ 0 (Or.inl (by show a.val < 512; omega))).trans ?_
    refine (canon_miss _ _ _ _ 0 (Or.inl (by show a.val < 512; omega))).trans ?_
    refine (canon_miss _ _ _ _ 0 (Or.inl (by show a.val < 512; omega))).trans ?_
    refine (canon_miss _ _ _ _ 0 (Or.inl (by show a.val < 256; omega))).trans ?_
    refine (canon_miss _ _ _ _ 0 (Or.inl (by show a.val < 256; omega))).trans ?_
    refine (canon_miss _ _ _ _ 0 (Or.inl (by show a.val < 256; omega))).trans ?_
    refine (canon_miss _ _ _ _ 0 (Or.inl (by show a.val < 256; omega))).trans ?_
    refine (canon_miss _ _ _ _ 0 (Or.inl (by show a.val < 256; omega))).trans ?_
    refine (canon_take _ _ _ _ (ix2 r k) (fun d => by
      fin_cases d
      · show a.val = _ + r.val; exact hx
      · show k.val = 0 + k.val; omega)).trans ?_
    have hb : 0 + r.val < 1024 := by clear hx; omega
    obtain rfl : a = ⟨0 + r.val, hb⟩ := Fin.ext hx
    clear hx
    refine (fin0 _ _ _ _ _ _ _ _ _ _ _ _ _ _ r k).trans ?_
    refine fin_congr ?_ ?_ (sq_congr (fun f => ?_) (fun f => ?_) (fun f => ?_) (fun f => ?_)) ?_
    all_goals try unfold chunk q
    rotate_left 1
    · rw [View.readCov_eq_canon']
      show View.canon _ _ = _
      rcases (by omega : 1536 ≤ k.val ∨ (1024 ≤ k.val ∧ k.val < 1536) ∨ (512 ≤ k.val ∧ k.val < 1024) ∨ k.val < 512) with h | h | h | h
      · obtain ⟨f, hf⟩ : ∃ f : Fin 512, k.val = 1536 + f.val := ⟨⟨k.val - 1536, by omega⟩, by dsimp only; omega⟩
        clear h
        refine (canon_take _ _ _ _ (ix2 r f) (fun d => by
          fin_cases d
          · show 0 + 1 * r.val = 0 + r.val; omega
          · show 0 + 1 * k.val = 1536 + f.val; omega)).trans ?_
        have hk : 1536 + f.val < 2048 := by clear hf; omega
        obtain rfl : k = ⟨1536 + f.val, hk⟩ := Fin.ext hf
        refine (chunk03 _ _ _ _ _ r f).trans ?_
        unfold chunk q
        pointwise
      · obtain ⟨f, hf⟩ : ∃ f : Fin 512, k.val = 1024 + f.val := ⟨⟨k.val - 1024, by omega⟩, by dsimp only; omega⟩
        clear h
        refine (canon_miss _ _ _ _ 1 (Or.inl (by show 0 + 1 * k.val < 1536; omega))).trans ?_
        refine (canon_take _ _ _ _ (ix2 r f) (fun d => by
          fin_cases d
          · show 0 + 1 * r.val = 0 + r.val; omega
          · show 0 + 1 * k.val = 1024 + f.val; omega)).trans ?_
        have hk : 1024 + f.val < 2048 := by clear hf; omega
        obtain rfl : k = ⟨1024 + f.val, hk⟩ := Fin.ext hf
        refine (chunk02 _ _ _ _ _ r f).trans ?_
        unfold chunk q
        pointwise
      · obtain ⟨f, hf⟩ : ∃ f : Fin 512, k.val = 512 + f.val := ⟨⟨k.val - 512, by omega⟩, by dsimp only; omega⟩
        clear h
        refine (canon_miss _ _ _ _ 1 (Or.inl (by show 0 + 1 * k.val < 1536; omega))).trans ?_
        refine (canon_miss _ _ _ _ 1 (Or.inl (by show 0 + 1 * k.val < 1024; omega))).trans ?_
        refine (canon_take _ _ _ _ (ix2 r f) (fun d => by
          fin_cases d
          · show 0 + 1 * r.val = 0 + r.val; omega
          · show 0 + 1 * k.val = 512 + f.val; omega)).trans ?_
        have hk : 512 + f.val < 2048 := by clear hf; omega
        obtain rfl : k = ⟨512 + f.val, hk⟩ := Fin.ext hf
        refine (chunk01 _ _ _ _ _ r f).trans ?_
        unfold chunk q
        pointwise
      · obtain ⟨f, hf⟩ : ∃ f : Fin 512, k.val = 0 + f.val := ⟨⟨k.val - 0, by omega⟩, by dsimp only; omega⟩
        clear h
        refine (canon_miss _ _ _ _ 1 (Or.inl (by show 0 + 1 * k.val < 1536; omega))).trans ?_
        refine (canon_miss _ _ _ _ 1 (Or.inl (by show 0 + 1 * k.val < 1024; omega))).trans ?_
        refine (canon_miss _ _ _ _ 1 (Or.inl (by show 0 + 1 * k.val < 512; omega))).trans ?_
        refine (canon_take _ _ _ _ (ix2 r f) (fun d => by
          fin_cases d
          · show 0 + 1 * r.val = 0 + r.val; omega
          · show 0 + 1 * k.val = 0 + f.val; omega)).trans ?_
        have hk : 0 + f.val < 2048 := by clear hf; omega
        obtain rfl : k = ⟨0 + f.val, hk⟩ := Fin.ext hf
        refine (chunk00 _ _ _ _ _ r f).trans ?_
        unfold chunk q
        pointwise
    all_goals pointwise

/-- The result array of the step. -/
def Y : S32768x2048.Idx → EReal := fun i => X m c (i 0).val (i 1) + nrm (Q m c (i 0).val) (W2 m c) (i 1)

theorem arr6 : (dats m 0 c).arrAt 6 (cfgs 0).N = Y m c := by
  refine (dats m 0 c).arrAt_eq_of_covers 6 _ (by decide +kernel) fun t hf y => ?_
  blk_simp
  rw [after0_6]
  idx_vars y
  refine (out_at m c t y0 y1).trans ?_
  unfold Y
  blk_simp [idx t]
  refine congrArg (fun k => X m c (t.val * 1024 + y0.val) k + nrm (Q m c (t.val * 1024 + y0.val)) (W2 m c) k) (Fin.ext ?_)
  blk_simp [idx t]

end Cert.PleIdeal.Val
-- ==== Proof.PlePair.lean ====
module

public import proofs.«01_k».proof.Defs
public import proofs.«01_k».proof.Proof.Gen.PleIdeal
public import proofs.«01_k».proof.Proof.Gen.PleRefIdeal
public import proofs.«01_k».proof.Proof.PleValue
public import Idealize.ShloMosaic.Lib.Claim

/-! # The per-layer-input step: the kernel's result is the reference's -/

@[expose] public section
set_option maxRecDepth 16384
noncomputable section

open Idealize.ShloMosaic Idealize.ShloMosaic.TcCoe Idealize.SL.Sem
open Idealize.ShloMosaic.Pipeline (Dat)

namespace Cert.PlePair
open Cert.FfnSpec Cert.PleSpec

/-- The reference's result at the kernel's argument memory is the kernel's array. -/
theorem ref_eq (m : (ℓ : Loc PleIdeal.nD PleIdeal.τ PleIdeal.sig) → Buf (Elt Ideal) ℓ)
    (m' : (ℓ : Loc PleRefIdeal.nD PleRefIdeal.τ PleRefIdeal.sig) → Buf (Elt Ideal) ℓ) (c : Dev PleIdeal.nD)
    (h0 : m' ((c.tc : Thread PleRefIdeal.nD PleRefIdeal.τ).loc PleRefIdeal.main_arg0) = m ((c.tc : Thread PleIdeal.nD PleIdeal.τ).loc PleIdeal.main_arg0))
    (h1 : m' ((c.tc : Thread PleRefIdeal.nD PleRefIdeal.τ).loc PleRefIdeal.main_arg1) = m ((c.tc : Thread PleIdeal.nD PleIdeal.τ).loc PleIdeal.main_arg1))
    (h2 : m' ((c.tc : Thread PleRefIdeal.nD PleRefIdeal.τ).loc PleRefIdeal.main_arg2) = m ((c.tc : Thread PleIdeal.nD PleIdeal.τ).loc PleIdeal.main_arg2))
    (h3 : m' ((c.tc : Thread PleRefIdeal.nD PleRefIdeal.τ).loc PleRefIdeal.main_arg3) = m ((c.tc : Thread PleIdeal.nD PleIdeal.τ).loc PleIdeal.main_arg3))
    (h4 : m' ((c.tc : Thread PleRefIdeal.nD PleRefIdeal.τ).loc PleRefIdeal.main_arg4) = m ((c.tc : Thread PleIdeal.nD PleIdeal.τ).loc PleIdeal.main_arg4))
    (h5 : m' ((c.tc : Thread PleRefIdeal.nD PleRefIdeal.τ).loc PleRefIdeal.main_arg5) = m ((c.tc : Thread PleIdeal.nD PleIdeal.τ).loc PleIdeal.main_arg5)) :
    PleRefIdeal.Value.res_main_v39 m' c = PleIdeal.Val.Y m c := by
  funext i
  idx_vars i
  refine (PleRefIdeal.Val.ref_at m' c i0 i1).trans ?_
  rw [h0, h1, h2, h3, h4, h5]
  have e0 : Fin.ofNat 32768 i0.val = i0 := Fin.ext (PleIdeal.Val.ofNat_val _ _ i0.isLt)
  unfold PleIdeal.Val.Y PleIdeal.Val.Q PleIdeal.Val.X PleIdeal.Val.P PleIdeal.Val.W1 PleIdeal.Val.W2
  simp only [ix2_0, ix2_1, e0]

theorem algebraic : Cert.algebraic_PleIdeal_PleRefIdeal := by
  pair_intro
  · run_from Cert.PleIdeal.Gen.run_main m g
  · run_from Cert.PleRefIdeal.Value.run m' g'
    obtain ⟨h0, h1, h2, h3, h4, h5⟩ := hagree c
    exact (ref_eq m m' c h0 h1 h2 h3 h4 h5).trans (PleIdeal.Val.arr6 m c).symm

end Cert.PlePair
-- ==== Proof.MergeSpec.lean ====
module

public import proofs.«01_k».proof.Proof.FfnSpec
public import proofs.«01_k».proof.Proof.Gen.MergeIdeal.Value
public import proofs.«01_k».proof.Proof.Gen.MergeRefIdeal.Run

/-! # The merge of the three branches on real numbers

One merged entry as a scalar function, the payloads of the kernel's body and the reference's term read at an index. -/

@[expose] public section
set_option maxRecDepth 16384
noncomputable section

open Idealize.ShloMosaic Idealize.ShloMosaic.TcCoe Idealize.SL.Sem
open Idealize.ShloMosaic.Pipeline (Dat)

namespace Cert.MergeSpec
open Cert.FfnSpec

/-- One branch's share of a merged entry: the sigmoid of the normed row `h` against the gate column `g`, times the
    branch's row `y` against the column `w` of its output weights. -/
def gated {n : ℕ} (h g : Fin 2048 → EReal) (y w : Fin n → EReal) : EReal :=
  Ideal.logistic (∑ l, h l * g l) * ∑ l, y l * w l

/-- One merged entry: the three gated branches added up. -/
def mg (h gc : Fin 2048 → EReal) (yc wc : Fin 512 → EReal) (ga : Fin 2048 → EReal) (ya wa : Fin 1024 → EReal)
    (gh : Fin 2048 → EReal) (yh wh : Fin 512 → EReal) : EReal :=
  gated h gc yc wc + gated h ga ya wa + gated h gh yh wh

end Cert.MergeSpec

namespace Cert.MergeIdeal.Val
open Cert.MergeIdeal Cert.MergeIdeal.Gen Cert.FfnSpec Cert.MergeSpec

/-- The part of the branch that a tile of 512 merged columns adds, from rows `h` and the tile's loads. -/
def tile {n : ℕ} (h : Fin n → Fin 2048 → EReal) (gc : Vec Ideal S2048x512 .bf16) (yc : (⟨2, ![n, 512]⟩ : Shape).Idx → EReal) (wc : Vec Ideal S512x512 .bf16)
    (ga : Vec Ideal S2048x512 .bf16) (ya : (⟨2, ![n, 1024]⟩ : Shape).Idx → EReal) (wa : Vec Ideal S1024x512 .bf16) (gh : Vec Ideal S2048x512 .bf16)
    (yh : (⟨2, ![n, 512]⟩ : Shape).Idx → EReal) (wh : Vec Ideal S512x512 .bf16) (o : Vec Ideal S512x2048 .bf16) (r : Fin n) (k : Fin 2048) : EReal :=
  ∑ f : Fin 512, mg (h r) (fun l => gc (ix2 l f)) (fun l => yc (ix2 r l)) (fun l => wc (ix2 l f)) (fun l => ga (ix2 l f)) (fun l => ya (ix2 r l))
    (fun l => wa (ix2 l f)) (fun l => gh (ix2 l f)) (fun l => yh (ix2 r l)) (fun l => wh (ix2 l f)) * (show EReal from o (ix2 f k))

/-- The first 256 rows at the first tile. -/
theorem pay7_at (a b gc yc wc ga ya wa gh yh wh o) (r : Fin 256) (k : Fin 2048) :
    k0_pay7 (F := Ideal) (k0_pay4 a b) (k0_pay6 a b gc yc wc ga ya wa) gh yh wh o (ix2 r k)
      = tile (fun r => nrm (fun l => a (ix2 r l)) fun l => b (ix2 0 l)) gc yc wc ga ya wa gh yh wh o r k := by
  pointwise [k0_pay7, k0_pay6, k0_pay4]
  rfl

/-- The last 256 rows at the first tile. -/
theorem pay1_at (a b gc yc wc ga ya wa gh yh wh o) (r : Fin 256) (k : Fin 2048) :
    k0_pay1 (F := Ideal) (k0_pay8 a b) (k0_pay10 a b gc) yc wc ga ya wa gh yh wh o (ix2 r k)
      = tile (fun r => nrm (fun l => a (ix2 r l)) fun l => b (ix2 0 l)) gc yc wc ga ya wa gh yh wh o r k := by
  pointwise [k0_pay1, k0_pay10, k0_pay8]
  rfl

/-- The normed rows kept for the later tiles, first half. -/
theorem pay5_at (a b) (r : Fin 256) (k : Fin 2048) :
    k0_pay5 (F := Ideal) a b (ix2 r k) = nrm (fun l => a (ix2 r l)) (fun l => b (ix2 0 l)) k := by
  pointwise [k0_pay5, k0_pay4]
  rfl

/-- The normed rows kept for the later tiles, second half. -/
theorem pay9_at (a b) (r : Fin 256) (k : Fin 2048) :
    k0_pay9 (F := Ideal) a b (ix2 r k) = nrm (fun l => a (ix2 r l)) (fun l => b (ix2 0 l)) k := by
  pointwise [k0_pay9, k0_pay8]
  rfl

/-- A middle tile: what the block held plus the tile's part. -/
theorem pay2_at (h gc yc wc ga ya wa gh yh wh o y) (r : Fin 512) (k : Fin 2048) :
    k0_pay2 (F := Ideal) (k0_pay11 h gc yc wc ga ya wa gh yh wh o) (k0_pay12 y) (ix2 r k)
      = y (ix2 r k) + tile (fun r l => h (ix2 r l)) gc yc wc ga ya wa gh yh wh o r k := by
  pointwise [k0_pay2, k0_pay11, k0_pay12]
  rfl

/-- The last tile, first half: the residual row plus the norm of the finished branch. -/
theorem pay15_at (n h gc yc wc ga ya wa gh yh wh o y x) (r : Fin 256) (k : Fin 2048) :
    k0_pay15 (F := Ideal) (k0_pay13 n) (k0_pay14 h gc yc wc ga ya wa gh yh wh) o y x (ix2 r k)
      = x (ix2 r k) + nrm (fun j => y (ix2 r j) + tile (fun r l => h (ix2 r l)) gc yc wc ga ya wa gh yh wh o r j) (fun l => n (ix2 0 l)) k := by
  pointwise [k0_pay15, k0_pay13, k0_pay14]
  rfl

/-- The last tile, second half. -/
theorem pay3_at (n h gc yc wc ga ya wa gh yh wh o y x) (r : Fin 256) (k : Fin 2048) :
    k0_pay3 (F := Ideal) (k0_pay13 n) h (k0_pay16 h gc yc wc) (k0_pay17 h ga) ya wa gh yh wh o y x (ix2 r k)
      = x (ix2 r k) + nrm (fun j => y (ix2 r j) + tile (fun r l => h (ix2 r l)) gc yc wc ga ya wa gh yh wh o r j) (fun l => n (ix2 0 l)) k := by
  pointwise [k0_pay3, k0_pay13, k0_pay16, k0_pay17]
  rfl

end Cert.MergeIdeal.Val

namespace Cert.MergeRefIdeal.Val
open Cert.MergeRefIdeal Cert.FfnSpec Cert.MergeSpec

/-- The reference's result, read at an entry. -/
theorem ref_at (m : (ℓ : Loc nD τ sig) → Buf (Elt Ideal) ℓ) (c : Dev nD) (r : Fin 32768) (k : Fin 2048) :
    (show EReal from Value.res_main_v65 m c (ix2 r k))
      = (show EReal from m ((c.tc : Thread nD τ).loc main_arg0) (ix2 r k)) + nrm (fun j => ∑ f : Fin 2048,
          mg (nrm (fun l => m ((c.tc : Thread nD τ).loc main_arg0) (ix2 r l)) fun l => m ((c.tc : Thread nD τ).loc main_arg1) (ix1 l))
            (fun l => m ((c.tc : Thread nD τ).loc main_arg2) (ix2 l ⟨f.val, by omega⟩))
            (fun l => m ((c.tc : Thread nD τ).loc main_arg3) (ix2 r l)) (fun l => m ((c.tc : Thread nD τ).loc main_arg6) (ix2 l f))
            (fun l => m ((c.tc : Thread nD τ).loc main_arg2) (ix2 l ⟨2048 + f.val, by omega⟩))
            (fun l => m ((c.tc : Thread nD τ).loc main_arg4) (ix2 r l)) (fun l => m ((c.tc : Thread nD τ).loc main_arg7) (ix2 l f))
            (fun l => m ((c.tc : Thread nD τ).loc main_arg2) (ix2 l ⟨4096 + f.val, by omega⟩))
            (fun l => m ((c.tc : Thread nD τ).loc main_arg5) (ix2 r l)) (fun l => m ((c.tc : Thread nD τ).loc main_arg8) (ix2 l f))
          * (show EReal from m ((c.tc : Thread nD τ).loc main_arg9) (ix2 f j))) (fun l => m ((c.tc : Thread nD τ).loc main_arg10) (ix1 l)) k := by
  pointwise [Value.res_main_v65]
  rfl

end Cert.MergeRefIdeal.Val
-- ==== Proof.MergeValue.lean ====
module

public import proofs.«01_k».proof.Proof.MergeSpec
public import Idealize.ShloMosaic.Lib.Pipeline.ReadBack

/-! # What the merge kernel's array holds

The blocks a grid point reads as entries of the arguments, the carried rows and the accumulated output block by induction over the points, and the result array. -/

@[expose] public section
set_option maxRecDepth 16384
noncomputable section

open Idealize.ShloMosaic Idealize.ShloMosaic.TcCoe Idealize.SL.Sem
open Idealize.ShloMosaic.Pipeline (Dat)

namespace Cert.MergeIdeal.Val
open Cert.MergeIdeal Cert.MergeIdeal.Gen Cert.FfnSpec Cert.MergeSpec

variable (m : (ℓ : Loc nD τ sig) → Buf (Elt Ideal) ℓ) (c : Dev nD)

/-- The residual rows, addressed by a natural row number. -/
def X (r : ℕ) (k : Fin 2048) : EReal := m ((c : Thread nD τ).loc main_arg0) (ix2 (Fin.ofNat 32768 r) k)
/-- The first norm's weights. -/
def W1 (k : Fin 2048) : EReal := m ((c : Thread nD τ).loc main_arg1) (ix1 k)
/-- A column of the gate weights, by a natural column number. -/
def G (f : ℕ) (k : Fin 2048) : EReal := m ((c : Thread nD τ).loc main_arg2) (ix2 k (Fin.ofNat 6144 f))
/-- The rows of the three branches. -/
def Yc (r : ℕ) (k : Fin 512) : EReal := m ((c : Thread nD τ).loc main_arg3) (ix2 (Fin.ofNat 32768 r) k)
def Ya (r : ℕ) (k : Fin 1024) : EReal := m ((c : Thread nD τ).loc main_arg4) (ix2 (Fin.ofNat 32768 r) k)
def Yh (r : ℕ) (k : Fin 512) : EReal := m ((c : Thread nD τ).loc main_arg5) (ix2 (Fin.ofNat 32768 r) k)
/-- The columns of their output weights. -/
def Wc (f : ℕ) (k : Fin 512) : EReal := m ((c : Thread nD τ).loc main_arg6) (ix2 k (Fin.ofNat 2048 f))
def Wa (f : ℕ) (k : Fin 1024) : EReal := m ((c : Thread nD τ).loc main_arg7) (ix2 k (Fin.ofNat 2048 f))
def Wh (f : ℕ) (k : Fin 512) : EReal := m ((c : Thread nD τ).loc main_arg8) (ix2 k (Fin.ofNat 2048 f))
/-- A row of the last weights. -/
def WO (f : ℕ) (k : Fin 2048) : EReal := m ((c : Thread nD τ).loc main_arg9) (ix2 (Fin.ofNat 2048 f) k)
/-- The second norm's weights. -/
def W2 (k : Fin 2048) : EReal := m ((c : Thread nD τ).loc main_arg10) (ix1 k)
/-- The normed row `r`. -/
def H (r : ℕ) : Fin 2048 → EReal := nrm (X m c r) (W1 m c)
/-- Merged column `f`'s part of the branch at row `r`, column `k`. -/
def term (r f : ℕ) (k : Fin 2048) : EReal :=
  mg (H m c r) (G m c f) (Yc m c r) (Wc m c f) (G m c (2048 + f)) (Ya m c r) (Wa m c f) (G m c (4096 + f)) (Yh m c r) (Wh m c f) * WO m c f k
/-- Column tile `j`'s part. -/
def part (r j : ℕ) (k : Fin 2048) : EReal := ∑ f : Fin 512, term m c r (j * 512 + f.val) k

theorem idx : ∀ t : Fin cfg0.N, win0_0.index t = ![t.val / 4, 0] ∧ win0_1.index t = ![0, 0] ∧ win0_2.index t = ![0, t.val % 4]
    ∧ win0_3.index t = ![0, 4 + t.val % 4] ∧ win0_4.index t = ![0, 8 + t.val % 4] ∧ win0_5.index t = ![t.val / 4, 0] ∧ win0_6.index t = ![t.val / 4, 0]
    ∧ win0_7.index t = ![t.val / 4, 0] :=
  (by decide +kernel : ∀ t : Fin grid0.N, _)

theorem idx' : ∀ t : Fin cfg0.N, win0_8.index t = ![0, t.val % 4] ∧ win0_9.index t = ![0, t.val % 4]
    ∧ win0_10.index t = ![0, t.val % 4] ∧ win0_11.index t = ![t.val % 4, 0] ∧ win0_12.index t = ![0, 0] ∧ win0_13.index t = ![t.val / 4, 0] :=
  (by decide +kernel : ∀ t : Fin grid0.N, _)

theorem ofNat_val (n a : ℕ) [NeZero n] (h : a < n) : (Fin.ofNat n a).val = a := Nat.mod_eq_of_lt h

theorem blk0 (t : Fin cfg0.N) (a : Fin 512) (k : Fin 2048) : (show EReal from iblk m c 0 t (ix2 a k)) = X m c (t.val / 4 * 512 + a.val) k := by
  have hN : t.val < 256 := lt_of_lt_of_eq t.isLt N_0
  have hr := ofNat_val 32768 (t.val / 4 * 512 + a.val) (by omega)
  unfold X
  blk_point [iblk, V, idx t]

theorem blk1 (t : Fin cfg0.N) (k : Fin 2048) : (show EReal from iblk m c 1 t (ix2 0 k)) = W1 m c k := by
  unfold W1
  blk_point [iblk, V, idx t]

theorem blk2 (t : Fin cfg0.N) (k : Fin 2048) (f : Fin 512) : (show EReal from iblk m c 2 t (ix2 k f)) = G m c (t.val % 4 * 512 + f.val) k := by
  have hr := ofNat_val 6144 (t.val % 4 * 512 + f.val) (by omega)
  unfold G
  blk_point [iblk, V, idx t]

theorem blk3 (t : Fin cfg0.N) (k : Fin 2048) (f : Fin 512) : (show EReal from iblk m c 3 t (ix2 k f)) = G m c (2048 + (t.val % 4 * 512 + f.val)) k := by
  have hr := ofNat_val 6144 (2048 + (t.val % 4 * 512 + f.val)) (by omega)
  unfold G
  blk_point [iblk, V, idx t]

theorem blk4 (t : Fin cfg0.N) (k : Fin 2048) (f : Fin 512) : (show EReal from iblk m c 4 t (ix2 k f)) = G m c (4096 + (t.val % 4 * 512 + f.val)) k := by
  have hr := ofNat_val 6144 (4096 + (t.val % 4 * 512 + f.val)) (by omega)
  unfold G
  blk_point [iblk, V, idx t]

theorem blk5 (t : Fin cfg0.N) (a : Fin 512) (k : Fin 512) : (show EReal from iblk m c 5 t (ix2 a k)) = Yc m c (t.val / 4 * 512 + a.val) k := by
  have hN : t.val < 256 := lt_of_lt_of_eq t.isLt N_0
  have hr := ofNat_val 32768 (t.val / 4 * 512 + a.val) (by omega)
  unfold Yc
  blk_point [iblk, V, idx t]

theorem blk6 (t : Fin cfg0.N) (a : Fin 512) (k : Fin 1024) : (show EReal from iblk m c 6 t (ix2 a k)) = Ya m c (t.val / 4 * 512 + a.val) k := by
  have hN : t.val < 256 := lt_of_lt_of_eq t.isLt N_0
  have hr := ofNat_val 32768 (t.val / 4 * 512 + a.val) (by omega)
  unfold Ya
  blk_point [iblk, V, idx t]

theorem blk7 (t : Fin cfg0.N) (a : Fin 512) (k : Fin 512) : (show EReal from iblk m c 7 t (ix2 a k)) = Yh m c (t.val / 4 * 512 + a.val) k := by
  have hN : t.val < 256 := lt_of_lt_of_eq t.isLt N_0
  have hr := ofNat_val 32768 (t.val / 4 * 512 + a.val) (by omega)
  unfold Yh
  blk_point [iblk, V, idx t]

theorem blk8 (t : Fin cfg0.N) (k : Fin 512) (f : Fin 512) : (show EReal from iblk m c 8 t (ix2 k f)) = Wc m c (t.val % 4 * 512 + f.val) k := by
  have hr := ofNat_val 2048 (t.val % 4 * 512 + f.val) (by omega)
  unfold Wc
  blk_point [iblk, V, idx' t]

theorem blk9 (t : Fin cfg0.N) (k : Fin 1024) (f : Fin 512) : (show EReal from iblk m c 9 t (ix2 k f)) = Wa m c (t.val % 4 * 512 + f.val) k := by
  have hr := ofNat_val 2048 (t.val % 4 * 512 + f.val) (by omega)
  unfold Wa
  blk_point [iblk, V, idx' t]

theorem blk10 (t : Fin cfg0.N) (k : Fin 512) (f : Fin 512) : (show EReal from iblk m c 10 t (ix2 k f)) = Wh m c (t.val % 4 * 512 + f.val) k := by
  have hr := ofNat_val 2048 (t.val % 4 * 512 + f.val) (by omega)
  unfold Wh
  blk_point [iblk, V, idx' t]

theorem blk11 (t : Fin cfg0.N) (f : Fin 512) (k : Fin 2048) : (show EReal from iblk m c 11 t (ix2 f k)) = WO m c (t.val % 4 * 512 + f.val) k := by
  have hr := ofNat_val 2048 (t.val % 4 * 512 + f.val) (by omega)
  unfold WO
  blk_point [iblk, V, idx' t]

theorem blk12 (t : Fin cfg0.N) (k : Fin 2048) : (show EReal from iblk m c 12 t (ix2 0 k)) = W2 m c k := by
  unfold W2
  blk_point [iblk, V, idx' t]

/-- The tile's part as the body computes it from the point's blocks, at row `a` of the block with the normed row `h`. -/
def tl (t : Fin cfg0.N) (a : Fin 512) (h : Fin 2048 → EReal) (k : Fin 2048) : EReal :=
  ∑ f : Fin 512, mg h (fun l => iblk m c 2 t (ix2 l f)) (fun l => iblk m c 5 t (ix2 a l)) (fun l => iblk m c 8 t (ix2 l f)) (fun l => iblk m c 3 t (ix2 l f))
    (fun l => iblk m c 6 t (ix2 a l)) (fun l => iblk m c 9 t (ix2 l f)) (fun l => iblk m c 4 t (ix2 l f)) (fun l => iblk m c 7 t (ix2 a l))
    (fun l => iblk m c 10 t (ix2 l f)) * (show EReal from iblk m c 11 t (ix2 f k))

theorem tl_eq (t : Fin cfg0.N) (a : Fin 512) (h : Fin 2048 → EReal) (hh : h = H m c (t.val / 4 * 512 + a.val)) (k : Fin 2048) :
    tl m c t a h k = part m c (t.val / 4 * 512 + a.val) (t.val % 4) k := by
  unfold tl part term
  refine Finset.sum_congr rfl fun f _ => ?_
  rw [hh, funext fun l => blk2 m c t l f, funext fun l => blk5 m c t a l, funext fun l => blk8 m c t l f, funext fun l => blk3 m c t l f,
    funext fun l => blk6 m c t a l, funext fun l => blk9 m c t l f, funext fun l => blk4 m c t l f, funext fun l => blk7 m c t a l,
    funext fun l => blk10 m c t l f, blk11 m c t f k]

/-- The normed row as the body computes it from the point's blocks. -/
theorem h_eq (t : Fin cfg0.N) (a : Fin 512) :
    nrm (fun l => iblk m c 0 t (ix2 a l)) (fun l => iblk m c 1 t (ix2 0 l)) = H m c (t.val / 4 * 512 + a.val) := by
  unfold H
  rw [funext fun l => blk0 m c t a l, funext fun l => blk1 m c t l]

/-- The first tile leaves its own part in the output block. -/
theorem accA (t : Fin cfg0.N) (ht : t.val % 4 = 0) (a : Fin 512) (k : Fin 2048) :
    (show EReal from (outsAt0 m c t.val t.isLt).1 (ix2 a k)) = part m c (t.val / 4 * 512 + a.val) (t.val % 4) k := by
  rw [← tl_eq m c t a _ (h_eq m c t a) k]
  rw [outsAt0_A m c t ht (by omega) (by omega)]
  frame_out
  canon_tiles x h
  all_goals idx_vars x
  · have hb : 256 + x0.val < 512 := by clear h0; omega
    obtain rfl : a = ⟨256 + x0.val, hb⟩ := Fin.ext h0
    obtain rfl : k = x1 := Fin.ext h1
    refine (pay1_at _ _ _ _ _ _ _ _ _ _ _ _ x0 k).trans ?_
    unfold tile tl
    pointwise
  · have hb : x0.val < 512 := by clear h0; omega
    obtain rfl : a = ⟨x0.val, hb⟩ := Fin.ext h0
    obtain rfl : k = x1 := Fin.ext h1
    refine (pay7_at _ _ _ _ _ _ _ _ _ _ _ _ x0 k).trans ?_
    unfold tile tl
    pointwise

/-- The first tile keeps the normed rows. -/
theorem rowA (t : Fin cfg0.N) (ht : t.val % 4 = 0) (a : Fin 512) (k : Fin 2048) :
    (show EReal from (outsAt0 m c t.val t.isLt).2 (ix2 a k)) = H m c (t.val / 4 * 512 + a.val) k := by
  rw [← h_eq m c t a]
  rw [outsAt0_A m c t ht (by omega) (by omega)]
  frame_out
  canon_tiles x h
  all_goals idx_vars x
  · have hb : 256 + x0.val < 512 := by clear h0; omega
    obtain rfl : a = ⟨256 + x0.val, hb⟩ := Fin.ext h0
    obtain rfl : k = x1 := Fin.ext h1
    refine (pay9_at _ _ x0 k).trans ?_
    pointwise
  · have hb : x0.val < 512 := by clear h0; omega
    obtain rfl : a = ⟨x0.val, hb⟩ := Fin.ext h0
    obtain rfl : k = x1 := Fin.ext h1
    refine (pay5_at _ _ x0 k).trans ?_
    pointwise

/-- The later tiles keep the rows of the point before. -/
theorem rowB (t : Fin cfg0.N) (ht : t.val % 4 ≠ 0) :
    (outsAt0 m c t.val t.isLt).2 = (outsAt0 m c (t.val - 1) (lt_of_le_of_lt (Nat.sub_le _ _) t.isLt)).2 := by
  by_cases h : t.val % 4 = 3
  · rw [outsAt0_C m c t ht (by omega) h]
    rfl
  · rw [outsAt0_B m c t ht (by omega) h]
    rfl

/-- A middle tile adds its part. -/
theorem accB (t : Fin cfg0.N) (ht : t.val % 4 ≠ 0) (ht' : t.val % 4 ≠ 3)
    (hrow : ∀ (a : Fin 512) (k : Fin 2048), (show EReal from (outsAt0 m c (t.val - 1) (lt_of_le_of_lt (Nat.sub_le _ _) t.isLt)).2 (ix2 a k)) = H m c (t.val / 4 * 512 + a.val) k)
    (a : Fin 512) (k : Fin 2048) :
    (show EReal from (outsAt0 m c t.val t.isLt).1 (ix2 a k))
      = (show EReal from (outsAt0 m c (t.val - 1) (lt_of_le_of_lt (Nat.sub_le _ _) t.isLt)).1 (ix2 a k)) + part m c (t.val / 4 * 512 + a.val) (t.val % 4) k := by
  rw [← tl_eq m c t a _ (funext fun l => hrow a l) k]
  rw [outsAt0_B m c t ht (by omega) ht']
  frame_out
  refine (pay2_at _ _ _ _ _ _ _ _ _ _ _ _ a k).trans ?_
  rw [read_unread_whole]
  unfold tile tl
  pointwise

/-- The last tile finishes the branch and writes the residual row plus its norm. -/
theorem accC (t : Fin cfg0.N) (ht : t.val % 4 = 3)
    (hrow : ∀ (a : Fin 512) (k : Fin 2048), (show EReal from (outsAt0 m c (t.val - 1) (lt_of_le_of_lt (Nat.sub_le _ _) t.isLt)).2 (ix2 a k)) = H m c (t.val / 4 * 512 + a.val) k)
    (a : Fin 512) (k : Fin 2048) :
    (show EReal from (outsAt0 m c t.val t.isLt).1 (ix2 a k))
      = X m c (t.val / 4 * 512 + a.val) k + nrm (fun j => (show EReal from (outsAt0 m c (t.val - 1) (lt_of_le_of_lt (Nat.sub_le _ _) t.isLt)).1 (ix2 a j))
          + part m c (t.val / 4 * 512 + a.val) (t.val % 4) j) (W2 m c) k := by
  rw [funext fun j => congrArg _ (tl_eq m c t a _ (funext fun l => hrow a l) j).symm, ← blk0 m c t a k, ← funext fun l => blk12 m c t l]
  rw [outsAt0_C m c t (by omega) (by omega) ht]
  frame_out
  canon_tiles x h
  all_goals idx_vars x
  · have hb : 256 + x0.val < 512 := by clear h0; omega
    obtain rfl : a = ⟨256 + x0.val, hb⟩ := Fin.ext h0
    obtain rfl : k = x1 := Fin.ext h1
    refine (pay3_at _ _ _ _ _ _ _ _ _ _ _ _ _ _ x0 k).trans ?_
    rw [read_unread_whole]
    unfold tile tl
    pointwise
  · have hb : x0.val < 512 := by clear h0; omega
    obtain rfl : a = ⟨x0.val, hb⟩ := Fin.ext h0
    obtain rfl : k = x1 := Fin.ext h1
    refine (pay15_at _ _ _ _ _ _ _ _ _ _ _ _ _ _ x0 k).trans ?_
    rw [read_unread_whole]
    unfold tile tl
    pointwise

/-- Every point holds the normed rows of its row block. -/
theorem rows (n : ℕ) (hn : n < cfg0.N) (a : Fin 512) (k : Fin 2048) :
    (show EReal from (outsAt0 m c n hn).2 (ix2 a k)) = H m c (n / 4 * 512 + a.val) k := by
  induction n with
  | zero => exact rowA m c ⟨0, hn⟩ rfl a k
  | succ n ih =>
    by_cases h : (n + 1) % 4 = 0
    · exact rowA m c ⟨n + 1, hn⟩ h a k
    · rw [rowB m c ⟨n + 1, hn⟩ h, show (n + 1) / 4 = n / 4 by omega]
      exact ih _

/-- Up to the tile before the last the output block holds the parts so far. -/
theorem accs (n : ℕ) (hn : n < cfg0.N) (h3 : n % 4 ≠ 3) (a : Fin 512) (k : Fin 2048) :
    (show EReal from (outsAt0 m c n hn).1 (ix2 a k)) = ∑ j ∈ Finset.range (n % 4 + 1), part m c (n / 4 * 512 + a.val) j k := by
  induction n with
  | zero => simpa using accA m c ⟨0, hn⟩ rfl a k
  | succ n ih =>
    by_cases h : (n + 1) % 4 = 0
    · rw [h, Finset.sum_range_one]
      exact (accA m c ⟨n + 1, hn⟩ h a k).trans (by rw [show (⟨n + 1, hn⟩ : Fin cfg0.N).val % 4 = 0 from h])
    · have e : (n + 1) / 4 = n / 4 := by omega
      have e' : (n + 1) % 4 = n % 4 + 1 := by omega
      rw [Finset.sum_range_succ]
      refine (accB m c ⟨n + 1, hn⟩ h h3 (fun a k => (rows m c n _ a k).trans ?_) a k).trans ?_
      · dsimp only; rw [e]
      · have := ih (Nat.lt_of_succ_lt hn) (by omega)
        rw [e, e', ← this]
        rfl

/-- The branch summed over all 2048 merged columns. -/
theorem parts_sum (r : ℕ) (k : Fin 2048) : ∑ j ∈ Finset.range 4, part m c r j k = ∑ f : Fin 2048, term m c r f.val k := by
  rw [Fin.sum_univ_tiles 4 512 rfl, Finset.sum_range]
  rfl

/-- At a row block's last point the output block holds the merged rows. -/
theorem out_last (t : Fin cfg0.N) (ht : t.val % 4 = 3) (a : Fin 512) (k : Fin 2048) :
    (show EReal from (outsAt0 m c t.val t.isLt).1 (ix2 a k))
      = X m c (t.val / 4 * 512 + a.val) k + nrm (fun j => ∑ f : Fin 2048, term m c (t.val / 4 * 512 + a.val) f.val j) (W2 m c) k := by
  have e : (t.val - 1) / 4 = t.val / 4 := by omega
  have e' : (t.val - 1) % 4 = 2 := by omega
  rw [accC m c t ht (fun a k => (rows m c _ _ a k).trans (by rw [e])) a k]
  congr 2
  funext j
  rw [← parts_sum, Finset.sum_range_succ, accs m c _ _ (by omega) a j, e, e', ht]

/-- The residual array after the merge. -/
def Y : S32768x2048.Idx → EReal := fun i =>
  X m c (i 0).val (i 1) + nrm (fun j => ∑ f : Fin 2048, term m c (i 0).val f.val j) (W2 m c) (i 1)

theorem arr13 : (dats m 0 c).arrAt 13 (cfgs 0).N = Y m c := by
  refine (dats m 0 c).arrAt_eq_of_covers 13 _ (by decide +kernel) fun t hf y => ?_
  blk_simp
  rw [after0_13]
  idx_vars y
  refine (out_last m c t ((flush0_13 t).mp hf) y0 y1).trans ?_
  unfold Y
  blk_simp [idx' t]
  refine congrArg (fun k => X m c (t.val / 4 * 512 + y0.val) k + nrm (fun j => ∑ f : Fin 2048, term m c (t.val / 4 * 512 + y0.val) f.val j) (W2 m c) k) (Fin.ext ?_)
  blk_simp [idx' t]

end Cert.MergeIdeal.Val
-- ==== Proof.MergePair.lean ====
module

public import proofs.«01_k».proof.Defs
public import proofs.«01_k».proof.Proof.Gen.MergeIdeal
public import proofs.«01_k».proof.Proof.Gen.MergeRefIdeal
public import proofs.«01_k».proof.Proof.MergeValue
public import Idealize.ShloMosaic.Lib.Claim

/-! # The merge of the branches: the kernel's result is the reference's -/

@[expose] public section
set_option maxRecDepth 16384
noncomputable section

open Idealize.ShloMosaic Idealize.ShloMosaic.TcCoe Idealize.SL.Sem
open Idealize.ShloMosaic.Pipeline (Dat)

namespace Cert.MergePair
open Cert.FfnSpec Cert.MergeSpec

/-- Equal branches give equal rows. -/
theorem add_nrm_congr {y y' : Fin 2048 → EReal} (h : ∀ j, y j = y' j) (x : EReal) (w : Fin 2048 → EReal) (k : Fin 2048) :
    x + nrm y w k = x + nrm y' w k := by
  rw [funext h]

set_option maxHeartbeats 4000000 in
/-- The reference's result at the kernel's argument memory is the kernel's array. -/
theorem ref_eq (m : (ℓ : Loc MergeIdeal.nD MergeIdeal.τ MergeIdeal.sig) → Buf (Elt Ideal) ℓ)
    (m' : (ℓ : Loc MergeRefIdeal.nD MergeRefIdeal.τ MergeRefIdeal.sig) → Buf (Elt Ideal) ℓ) (c : Dev MergeIdeal.nD)
    (h0 : m' ((c.tc : Thread MergeRefIdeal.nD MergeRefIdeal.τ).loc MergeRefIdeal.main_arg0) = m ((c.tc : Thread MergeIdeal.nD MergeIdeal.τ).loc MergeIdeal.main_arg0))
    (h1 : m' ((c.tc : Thread MergeRefIdeal.nD MergeRefIdeal.τ).loc MergeRefIdeal.main_arg1) = m ((c.tc : Thread MergeIdeal.nD MergeIdeal.τ).loc MergeIdeal.main_arg1))
    (h2 : m' ((c.tc : Thread MergeRefIdeal.nD MergeRefIdeal.τ).loc MergeRefIdeal.main_arg2) = m ((c.tc : Thread MergeIdeal.nD MergeIdeal.τ).loc MergeIdeal.main_arg2))
    (h3 : m' ((c.tc : Thread MergeRefIdeal.nD MergeRefIdeal.τ).loc MergeRefIdeal.main_arg3) = m ((c.tc : Thread MergeIdeal.nD MergeIdeal.τ).loc MergeIdeal.main_arg3))
    (h4 : m' ((c.tc : Thread MergeRefIdeal.nD MergeRefIdeal.τ).loc MergeRefIdeal.main_arg4) = m ((c.tc : Thread MergeIdeal.nD MergeIdeal.τ).loc MergeIdeal.main_arg4))
    (h5 : m' ((c.tc : Thread MergeRefIdeal.nD MergeRefIdeal.τ).loc MergeRefIdeal.main_arg5) = m ((c.tc : Thread MergeIdeal.nD MergeIdeal.τ).loc MergeIdeal.main_arg5))
    (h6 : m' ((c.tc : Thread MergeRefIdeal.nD MergeRefIdeal.τ).loc MergeRefIdeal.main_arg6) = m ((c.tc : Thread MergeIdeal.nD MergeIdeal.τ).loc MergeIdeal.main_arg6))
    (h7 : m' ((c.tc : Thread MergeRefIdeal.nD MergeRefIdeal.τ).loc MergeRefIdeal.main_arg7) = m ((c.tc : Thread MergeIdeal.nD MergeIdeal.τ).loc MergeIdeal.main_arg7))
    (h8 : m' ((c.tc : Thread MergeRefIdeal.nD MergeRefIdeal.τ).loc MergeRefIdeal.main_arg8) = m ((c.tc : Thread MergeIdeal.nD MergeIdeal.τ).loc MergeIdeal.main_arg8))
    (h9 : m' ((c.tc : Thread MergeRefIdeal.nD MergeRefIdeal.τ).loc MergeRefIdeal.main_arg9) = m ((c.tc : Thread MergeIdeal.nD MergeIdeal.τ).loc MergeIdeal.main_arg9))
    (h10 : m' ((c.tc : Thread MergeRefIdeal.nD MergeRefIdeal.τ).loc MergeRefIdeal.main_arg10) = m ((c.tc : Thread MergeIdeal.nD MergeIdeal.τ).loc MergeIdeal.main_arg10)) :
    MergeRefIdeal.Value.res_main_v65 m' c = MergeIdeal.Val.Y m c := by
  funext i
  idx_vars i
  refine (MergeRefIdeal.Val.ref_at m' c i0 i1).trans ?_
  rw [h0, h1, h2, h3, h4, h5, h6, h7, h8, h9, h10]
  have e0 : Fin.ofNat 32768 i0.val = i0 := Fin.ext (MergeIdeal.Val.ofNat_val _ _ i0.isLt)
  unfold MergeIdeal.Val.Y MergeIdeal.Val.term MergeIdeal.Val.H MergeIdeal.Val.X MergeIdeal.Val.W1 MergeIdeal.Val.W2
    MergeIdeal.Val.G MergeIdeal.Val.Yc MergeIdeal.Val.Ya MergeIdeal.Val.Yh MergeIdeal.Val.Wc MergeIdeal.Val.Wa MergeIdeal.Val.Wh MergeIdeal.Val.WO
  simp only [ix2_0, ix2_1, e0]
  refine add_nrm_congr (fun j => Finset.sum_congr rfl fun f _ => ?_) _ _ _
  have e1 : Fin.ofNat 2048 f.val = f := Fin.ext (MergeIdeal.Val.ofNat_val _ _ f.isLt)
  have e2 : Fin.ofNat 6144 f.val = ⟨f.val, by omega⟩ := Fin.ext (MergeIdeal.Val.ofNat_val _ _ (by omega))
  have e3 : Fin.ofNat 6144 (2048 + f.val) = ⟨2048 + f.val, by omega⟩ := Fin.ext (MergeIdeal.Val.ofNat_val _ _ (by omega))
  have e4 : Fin.ofNat 6144 (4096 + f.val) = ⟨4096 + f.val, by omega⟩ := Fin.ext (MergeIdeal.Val.ofNat_val _ _ (by omega))
  rw [e1, e2, e3, e4]

set_option maxHeartbeats 4000000 in
theorem algebraic : Cert.algebraic_MergeIdeal_MergeRefIdeal := by
  pair_intro
  · run_from Cert.MergeIdeal.Gen.run_main m g
  · run_from Cert.MergeRefIdeal.Value.run m' g'
    obtain ⟨h0, h1, h2, h3, h4, h5, h6, h7, h8, h9, h10⟩ := hagree c
    exact (ref_eq m m' c h0 h1 h2 h3 h4 h5 h6 h7 h8 h9 h10).trans (MergeIdeal.Val.arr13 m c).symm

end Cert.MergePair
-- ==== Proof.ConvSpec.lean ====
module

public import proofs.«01_k».proof.Proof.FfnSpec
public import proofs.«01_k».proof.Proof.Gen.ConvIdeal.Value
public import proofs.«01_k».proof.Proof.Gen.ConvRefIdeal.Run

/-! # The gated short convolution on real numbers

The projected entry, the gated product and the three-tap sum as scalar functions, the payloads of the kernel's two row
blocks and the reference's term read at an index. -/

@[expose] public section
set_option maxRecDepth 16384
noncomputable section

open Idealize.ShloMosaic Idealize.ShloMosaic.TcCoe Idealize.SL.Sem
open Idealize.ShloMosaic.Pipeline (Dat)

namespace Cert.ConvSpec
open Cert.FfnSpec

/-- One projected entry: the normed row `h` against a column `w`. -/
def pr (h w : Fin 2048 → EReal) : EReal := ∑ l, h l * w l

/-- The gated product of a row: its last projected part times its first. -/
def gu (h : Fin 2048 → EReal) (w : Fin 2048 → Fin 1536 → EReal) (j : Fin 512) : EReal :=
  pr h (fun l => w l ⟨1024 + j.val, by omega⟩) * pr h (fun l => w l ⟨j.val, by omega⟩)

/-- The branch's entry: the middle projected part times the three taps over the gated products `u`, `u1`, `u2` of the row
    and of the two rows before it. -/
def tap (h : Fin 2048 → EReal) (w : Fin 2048 → Fin 1536 → EReal) (c0 c1 c2 u u1 u2 : EReal) (j : Fin 512) : EReal :=
  pr h (fun l => w l ⟨512 + j.val, by omega⟩) * (c2 * u + c1 * u1 + c0 * u2)

/-- The value one row up in a block of 256 rows, `t` standing above the first row. -/
def up1 (t : EReal) (g : Fin 256 → EReal) (r : Fin 256) : EReal :=
  if r.val = 0 then t else g ⟨r.val - 1, by omega⟩

/-- The value two rows up in a block of 256 rows, `s` and `t` standing above the first row. -/
def up2 (s t : EReal) (g : Fin 256 → EReal) (r : Fin 256) : EReal :=
  if r.val = 0 then s else if r.val = 1 then t else g ⟨r.val - 2, by omega⟩

/-- Choosing by a comparison of a row's number is choosing by the number. -/
theorem select_row (r : Fin 256) (n : ℕ) (hn : n < 256) (x y : EReal) :
    Scalar.select (IntOp.cmpi .eq (BitVec.ofNat 32 r.val) (BitVec.ofNat 32 n)) x y = if r.val = n then x else y := by
  have h : (BitVec.ofNat 32 r.val = BitVec.ofNat 32 n) ↔ r.val = n := by
    constructor
    · intro h
      have := congrArg BitVec.toNat h
      simp only [BitVec.toNat_ofNat] at this
      omega
    · intro h
      rw [h]
  by_cases hr : r.val = n
  · simp [Scalar.select, IntOp.cmpi, hr]
  · have h' : ¬ BitVec.ofNat 32 r.val = BitVec.ofNat 32 n := fun e => hr (h.mp e)
    have hb : (BitVec.ofNat 32 r.val == BitVec.ofNat 32 n) = false := beq_eq_false_iff_ne.mpr h'
    unfold Scalar.select IntOp.cmpi
    simp only [hb]
    rw [if_neg hr]
    exact if_neg (by decide)

/-- A block rotated by one row with its first row replaced is the block one row up. -/
theorem rot1 (t : EReal) (g : Fin 256 → EReal) (r : Fin 256) (h : (r.val + 256 - 1) % 256 < 256) :
    Scalar.select (IntOp.cmpi .eq (BitVec.ofNat 32 r.val) 0#32) t (g ⟨(r.val + 256 - 1) % 256, h⟩) = up1 t g r := by
  refine (select_row r 0 (by omega) _ _).trans ?_
  unfold up1
  by_cases h0 : r.val = 0
  · rw [if_pos h0, if_pos h0]
  · rw [if_neg h0, if_neg h0]
    exact congrArg g (Fin.ext (by show (r.val + 256 - 1) % 256 = r.val - 1; omega))

/-- A block rotated by two rows with its first two rows replaced is the block two rows up. -/
theorem rot2 (s t : EReal) (g : Fin 256 → EReal) (r : Fin 256) (h : (r.val + 256 - 2) % 256 < 256) :
    Scalar.select (IntOp.cmpi .eq (BitVec.ofNat 32 r.val) 0#32) s
      (Scalar.select (IntOp.cmpi .eq (BitVec.ofNat 32 r.val) 1#32) t (g ⟨(r.val + 256 - 2) % 256, h⟩)) = up2 s t g r := by
  refine (select_row r 0 (by omega) _ _).trans ?_
  unfold up2
  by_cases h0 : r.val = 0
  · rw [if_pos h0, if_pos h0]
  rw [if_neg h0, if_neg h0]
  refine (select_row r 1 (by omega) _ _).trans ?_
  by_cases h1 : r.val = 1
  · rw [if_pos h1, if_pos h1]
  · rw [if_neg h1, if_neg h1]
    exact congrArg g (Fin.ext (by show (r.val + 256 - 2) % 256 = r.val - 2; omega))

end Cert.ConvSpec

namespace Cert.ConvIdeal.Val
open Cert.ConvIdeal Cert.ConvIdeal.Gen Cert.FfnSpec Cert.ConvSpec

/-- The normed row `r` of a block. -/
def hRow (a : Vec Ideal S256x2048 .f32) (b : Vec Ideal S1x2048 .f32) (r : Fin 256) : Fin 2048 → EReal :=
  nrm (fun l => a (ix2 r l)) (fun l => b (ix2 0 l))

/-- The gated products of a block's rows at column `j`. -/
def gRow (a : Vec Ideal S256x2048 .f32) (b : Vec Ideal S1x2048 .f32) (w : Vec Ideal S2048x1536 .bf16) (j : Fin 512) (r : Fin 256) : EReal :=
  gu (hRow a b r) (fun l k => w (ix2 l k)) j

/-- A block's result entry, the two rows above it having the products `s` and `t`. -/
def blockOut (cw : Vec Ideal S8x512 .f32) (s t : EReal) (a : Vec Ideal S256x2048 .f32) (b : Vec Ideal S1x2048 .f32) (w : Vec Ideal S2048x1536 .bf16)
    (r : Fin 256) (j : Fin 512) : EReal :=
  tap (hRow a b r) (fun l k => w (ix2 l k)) (cw (ix2 0 j)) (cw (ix2 1 j)) (cw (ix2 2 j)) (gRow a b w j r)
    (up1 t (gRow a b w j) r) (up2 s t (gRow a b w j) r) j

/-- The first row block. -/
theorem pay7_at (cw T a b w) (r : Fin 256) (j : Fin 512) :
    k0_pay7 (F := Ideal) (k0_pay3 cw) (iota .tc S256x512 32 [0] iota_S256x512_d0_w32) T (k0_pay4 a b w) (k0_pay5 a b w) (ix2 r j)
      = blockOut cw (T (ix2 6 j)) (T (ix2 7 j)) a b w r j := by
  unfold blockOut tap
  rw [← rot1 _ _ _ (Nat.mod_lt _ (by omega)), ← rot2 _ _ _ _ (Nat.mod_lt _ (by omega))]
  pointwise [k0_pay7, k0_pay3, k0_pay4, k0_pay5, k0_pay6]
  rfl

/-- The last eight products of the first row block. -/
theorem pay8_at (a b w) (r : Fin 8) (j : Fin 512) :
    k0_pay8 (F := Ideal) (k0_pay4 a b w) (k0_pay5 a b w) (ix2 r j) = gRow a b w j ⟨248 + r.val, by omega⟩ := by
  pointwise [k0_pay8, k0_pay4, k0_pay5, k0_pay6]
  rfl

/-- The second row block. -/
theorem pay13_at (cw T a b w) (r : Fin 256) (j : Fin 512) :
    k0_pay13 (F := Ideal) (k0_pay3 cw) (iota .tc S256x512 32 [0] iota_S256x512_d0_w32) T a (k0_pay9 b) (k0_pay10 a) (Scalar.ofBits .f32 0x358637BD#32) w (ix2 r j)
      = blockOut cw (T (ix2 6 j)) (T (ix2 7 j)) a b w r j := by
  unfold blockOut tap
  rw [← rot1 _ _ _ (Nat.mod_lt _ (by omega)), ← rot2 _ _ _ _ (Nat.mod_lt _ (by omega))]
  pointwise [k0_pay13, k0_pay3, k0_pay9, k0_pay10, k0_pay11, k0_pay12]
  rfl

/-- The last eight products of the second row block. -/
theorem pay1_at (a b w) (r : Fin 8) (j : Fin 512) :
    k0_pay1 (F := Ideal) (k0_pay14 a (k0_pay9 b) (k0_pay10 a) (Scalar.ofBits .f32 0x358637BD#32) w) (ix2 r j) = gRow a b w j ⟨248 + r.val, by omega⟩ := by
  pointwise [k0_pay1, k0_pay14, k0_pay9, k0_pay10, k0_pay11, k0_pay12]
  rfl

end Cert.ConvIdeal.Val

namespace Cert.ConvRefIdeal.Val
open Cert.ConvRefIdeal Cert.ConvRefIdeal.Gen Cert.FfnSpec Cert.ConvSpec Idealize.ShloMosaic.StableHlo

/-- The reference's projection of the normed activations. -/
def projected {F : FTy → Type} [FloatOps F] (a : Vec F S32768x2048 .f32) (np : Vec F S2048 .f32) (w : Vec F S2048x1536 .bf16) : Vec F S2x16384x1536 .f32 :=
  Host.dotGeneral dot_S2x16384x2048_S2048x1536_S2x16384x1536_2_0_01_1_n_n none (mulf (mulf (shapeCast _ a shapeCasts_S32768x2048_S2x16384x2048) (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf (shapeCast _ a shapeCasts_S32768x2048_S2x16384x2048) (shapeCast _ a shapeCasts_S32768x2048_S2x16384x2048)) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 np))) (extf .f32 w bitsLt_bf16_f32)

/-- The reference's gated product of the projection `p`. -/
def gated {F : FTy → Type} [FloatOps F] (p : Vec F S2x16384x1536 .f32) : Vec F S2x16384x512 .f32 :=
  mulf (extractStridedSlice S2x16384x512 ![0, 0, 1024] p slices_S2x16384x1536_S2x16384x512_0_0_1024) (extractStridedSlice S2x16384x512 ![0, 0, 0] p slices_S2x16384x1536_S2x16384x512_0_0_0)

/-- The reference's taps `cw` over the gated product `u`, gated by the projection `p`. -/
def taps {F : FTy → Type} [FloatOps F] (p : Vec F S2x16384x1536 .f32) (u : Vec F S2x16384x512 .f32) (cw : Vec F S3x512 .f32) : Vec F S32768x512 .bf16 :=
  truncf .bf16 (shapeCast _ (mulf (extractStridedSlice S2x16384x512 ![0, 0, 512] p slices_S2x16384x1536_S2x16384x512_0_0_512) (addf (addf (mulf (broadcastInDim S2x16384x512 ![0, 1, 2] bcast_S1x1x512_S2x16384x512_0_1_2 (broadcastInDim S1x1x512 ![2] bcast_S512_S1x1x512_2 (shapeCast _ (extractStridedSlice S1x512 ![2, 0] cw slices_S3x512_S1x512_2_0) shapeCasts_S1x512_S512))) u) (mulf (broadcastInDim S2x16384x512 ![0, 1, 2] bcast_S1x1x512_S2x16384x512_0_1_2 (broadcastInDim S1x1x512 ![2] bcast_S512_S1x1x512_2 (shapeCast _ (extractStridedSlice S1x512 ![1, 0] cw slices_S3x512_S1x512_1_0) shapeCasts_S1x512_S512))) (extractStridedSlice S2x16384x512 ![0, 0, 0] (pad S2x16385x512 ![0, 1, 0] ![0, 0, 0] ![0, 0, 0] u (sitofp .f32 (constantI S_ 32 0#32)) pads_S2x16384x512_S2x16385x512_000_100_000 h_S_) slices_S2x16385x512_S2x16384x512_0_0_0))) (mulf (broadcastInDim S2x16384x512 ![0, 1, 2] bcast_S1x1x512_S2x16384x512_0_1_2 (broadcastInDim S1x1x512 ![2] bcast_S512_S1x1x512_2 (shapeCast _ (extractStridedSlice S1x512 ![0, 0] cw slices_S3x512_S1x512_0_0) shapeCasts_S1x512_S512))) (extractStridedSlice S2x16384x512 ![0, 0, 0] (pad S2x16386x512 ![0, 2, 0] ![0, 0, 0] ![0, 0, 0] u (sitofp .f32 (constantI S_ 32 0#32)) pads_S2x16384x512_S2x16386x512_000_200_000 h_S_) slices_S2x16386x512_S2x16384x512_0_0_0)))) shapeCasts_S2x16384x512_S32768x512) bitsLt_bf16_f32

/-- The projection at an entry. -/
theorem projected_at (a np w) (b : Fin 2) (s : Fin 16384) (j : Fin 1536) :
    projected (F := Ideal) a np w (ix3 b s j)
      = pr (nrm (fun l => a (ix2 ⟨b.val * 16384 + s.val, by omega⟩ l)) fun l => np (ix1 l)) (fun l => w (ix2 l j)) := by
  pointwise [projected]
  rfl

/-- The gated product at an entry. -/
theorem gated_at (a np w) (b : Fin 2) (s : Fin 16384) (j : Fin 512) :
    gated (F := Ideal) (projected a np w) (ix3 b s j)
      = gu (nrm (fun l => a (ix2 ⟨b.val * 16384 + s.val, by omega⟩ l)) fun l => np (ix1 l)) (fun l k => w (ix2 l k)) j := by
  unfold gu
  rw [← projected_at a np w b s, ← projected_at a np w b s]
  pointwise [gated]

/-- The taps at an entry, `z` standing for the converted zero the reference pads with. -/
theorem taps_at_of (z : EReal) (hz : z = FloatOps.sitofp (F := Ideal) .f32 (0#32 : BitVec 32)) (p u cw) (r : Fin 32768) (j : Fin 512) :
    taps (F := Ideal) p u cw (ix2 r j)
      = (show EReal from p (ix3 ⟨r.val / 16384, by omega⟩ ⟨r.val % 16384, by omega⟩ ⟨512 + j.val, by omega⟩))
        * ((show EReal from cw (ix2 2 j)) * u (ix3 ⟨r.val / 16384, by omega⟩ ⟨r.val % 16384, by omega⟩ j)
          + (show EReal from cw (ix2 1 j)) * (if 1 ≤ r.val % 16384 then u (ix3 ⟨r.val / 16384, by omega⟩ ⟨r.val % 16384 - 1, by omega⟩ j) else z)
          + (show EReal from cw (ix2 0 j)) * (if 2 ≤ r.val % 16384 then u (ix3 ⟨r.val / 16384, by omega⟩ ⟨r.val % 16384 - 2, by omega⟩ j) else z)) := by
  subst hz
  pointwise [taps]
  have a1 : (r.val / 16384 < 2 ∧ 1 ≤ r.val % 16384 ∧ r.val % 16384 - 1 < 16384) ↔ 1 ≤ r.val % 16384 := by omega
  have a2 : (r.val / 16384 < 2 ∧ 2 ≤ r.val % 16384 ∧ r.val % 16384 - 2 < 16384) ↔ 2 ≤ r.val % 16384 := by omega
  simp only [a1, a2]
  rfl

/-- The converted zero is zero. -/
theorem zero_eq : (0 : EReal) = FloatOps.sitofp (F := Ideal) .f32 (0#32 : BitVec 32) := by
  simp [FloatOps.sitofp]

/-- The reference's result is the taps over the gated projection. -/
theorem res_eq (m : (ℓ : Loc nD τ sig) → Buf (Elt Ideal) ℓ) (c : Dev nD) :
    Value.res_main_v43 m c = taps (projected (m ((c.tc : Thread nD τ).loc main_arg0)) (m ((c.tc : Thread nD τ).loc main_arg1)) (m ((c.tc : Thread nD τ).loc main_arg2)))
      (gated (projected (m ((c.tc : Thread nD τ).loc main_arg0)) (m ((c.tc : Thread nD τ).loc main_arg1)) (m ((c.tc : Thread nD τ).loc main_arg2)))) (m ((c.tc : Thread nD τ).loc main_arg3)) := rfl

end Cert.ConvRefIdeal.Val
-- ==== Proof.ConvValue.lean ====
module

public import proofs.«01_k».proof.Proof.ConvSpec
public import Idealize.ShloMosaic.Lib.Pipeline.ReadBack
public import Idealize.ShloMosaic.Lib.Routing.OpsSet

/-! # What the convolution kernel's array holds

The blocks a grid point reads as entries of the arguments, the rows carried to the next point and the output block, and the result array. -/

@[expose] public section
set_option maxRecDepth 16384
noncomputable section

open Idealize.ShloMosaic Idealize.ShloMosaic.TcCoe Idealize.SL.Sem
open Idealize.ShloMosaic.Pipeline (Dat)

namespace Cert.ConvIdeal.Val
open Cert.ConvIdeal Cert.ConvIdeal.Gen Cert.FfnSpec Cert.ConvSpec

variable (m : (ℓ : Loc nD τ sig) → Buf (Elt Ideal) ℓ) (c : Dev nD)

/-- The activations' rows, addressed by a natural row number. -/
def X (r : ℕ) (k : Fin 2048) : EReal := m ((c : Thread nD τ).loc main_arg0) (ix2 (Fin.ofNat 32768 r) k)
/-- The norm's weights. -/
def NP (k : Fin 2048) : EReal := m ((c : Thread nD τ).loc main_arg1) (ix1 k)
/-- The projection's weights. -/
def W (k : Fin 2048) (f : Fin 1536) : EReal := m ((c : Thread nD τ).loc main_arg2) (ix2 k f)
/-- The taps. -/
def CW (a : Fin 3) (j : Fin 512) : EReal := m ((c : Thread nD τ).loc main_arg3) (ix2 a j)
/-- The normed row `r`. -/
def H (r : ℕ) : Fin 2048 → EReal := nrm (X m c r) (NP m c)
/-- The gated product of row `r`. -/
def U (r : ℕ) (j : Fin 512) : EReal := gu (H m c r) (W m c) j
/-- The gated product `d` rows above row `r`, zero above the sequence's first row. -/
def Up (d r : ℕ) (j : Fin 512) : EReal := if d ≤ r % 16384 then U m c (r - d) j else 0
/-- The result's entry. -/
def Yr (r : ℕ) (j : Fin 512) : EReal :=
  tap (H m c r) (W m c) (CW m c 0 j) (CW m c 1 j) (CW m c 2 j) (U m c r j) (Up m c 1 r j) (Up m c 2 r j) j

theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

theorem ofNat_val (n a : ℕ) [NeZero n] (h : a < n) : (Fin.ofNat n a).val = a := Nat.mod_eq_of_lt h

theorem blk0 (t : Fin cfg0.N) (a : Fin 512) (k : Fin 2048) : (show EReal from iblk m c 0 t (ix2 a k)) = X m c (t.val * 512 + a.val) k := by
  have hN : t.val < 64 := lt_of_lt_of_eq t.isLt N_0
  have hr := ofNat_val 32768 (t.val * 512 + a.val) (by omega)
  unfold X
  blk_point [iblk, V, idx t]

theorem blk1 (t : Fin cfg0.N) (k : Fin 2048) : (show EReal from iblk m c 1 t (ix2 0 k)) = NP m c k := by
  unfold NP
  blk_point [iblk, V, idx t]

theorem blk2 (t : Fin cfg0.N) (k : Fin 2048) (f : Fin 1536) : (show EReal from iblk m c 2 t (ix2 k f)) = W m c k f := by
  unfold W
  blk_point [iblk, V, idx t]

/-- Where the padding of the taps to eight rows puts its row `r`, column `k`: at the same place. -/
theorem taps_land (idx : IVec S1 32) (hidx : ∀ x, (idx x).toInt = 0) (r : Fin 3) (k : Fin 512) (a : Fin 8) (j : Fin 512) :
    scatter_S8x512_S1_S3x512_01_n_0_0.resultIdx? (ix2 r k) idx = some (ix2 a j) ↔ r.val = a.val ∧ k.val = j.val := by
  have w0 : scatter_S8x512_S1_S3x512_01_n_0_0.window (ix2 r k) 0 = r.val := rfl
  have w1 : scatter_S8x512_S1_S3x512_01_n_0_0.window (ix2 r k) 1 = k.val := rfl
  have s1 : scatter_S8x512_S1_S3x512_01_n_0_0.start (ix2 r k) idx 1 = 0 := rfl
  have s0 : scatter_S8x512_S1_S3x512_01_n_0_0.start (ix2 r k) idx 0 = 0 := by
    unfold ScatterDims.start
    split
    · exact hidx _
    · rfl
  refine (Routing.resultIdx?_ix2 (R := 8) (C := 512) scatter_S8x512_S1_S3x512_01_n_0_0 (ix2 r k) idx a j).trans ?_
  rw [s0, s1, w0, w1]
  omega

/-- The padded taps' first three rows are the taps. -/
theorem taps_at (x : Vec Ideal S8x512 .f32) (idx : IVec S1 32) (hidx : ∀ x, (idx x).toInt = 0) (v : Vec Ideal S3x512 .f32) (a : Fin 3) (j : Fin 512) :
    Host.scatter scatter_S8x512_S1_S3x512_01_n_0_0 (fun _ b => b) x idx v (ix2 ⟨a.val, by omega⟩ j) = v (ix2 a j) := by
  refine Routing.scatter_set_hit _ x idx v _ _ (fun k hk => ?_) (ix2 a j) ((taps_land idx hidx a j _ j).mpr ⟨rfl, rfl⟩)
  idx_vars k
  have h := (taps_land idx hidx k0 k1 _ j).mp hk
  exact congrArg₂ (fun a b => v (ix2 a b)) (Fin.ext h.1) (Fin.ext h.2)

theorem whole3 (v : Vec Ideal S8x512 .f32) (t : Fin cfg0.N) (a : Fin 8) (j : Fin 512) : (show EReal from v ((win0_3.blk t).view.emb (ix2 a j))) = v (ix2 a j) := by
  blk_point [idx t]

/-- The padded taps, as the host leaves them for the kernel. -/
theorem padded : V m c (Pipeline.arrRef spec0 3) = Host.scatter scatter_S8x512_S1_S3x512_01_n_0_0 (fun _ b => b)
    (broadcastInDim S8x512 ![] bcast_S_S8x512 (constant (F := Ideal) S_ .f32 0#32)) (broadcastInDim S1 ![] bcast_S_S1 (constantI S_ 32 0#32))
    (m ((c : Thread nD τ).loc main_arg3)) := by
  unfold V
  after_results

theorem blk3 (t : Fin cfg0.N) (a : Fin 3) (j : Fin 512) : (show EReal from iblk m c 3 t (ix2 ⟨a.val, by omega⟩ j)) = CW m c a j := by
  unfold CW
  refine (whole3 (V m c (Pipeline.arrRef spec0 3)) t _ j).trans ?_
  rw [padded]
  exact taps_at _ _ (fun _ => rfl) _ a j

/-- One row up inside a block that starts at row `n`. -/
theorem up1_eq (n : ℕ) (hn : n % 256 = 0) (r : Fin 256) (j : Fin 512) :
    up1 (Up m c 1 n j) (fun r => U m c (n + r.val) j) r = Up m c 1 (n + r.val) j := by
  unfold up1
  by_cases h : r.val = 0
  · rw [if_pos h, h, Nat.add_zero]
  · rw [if_neg h]
    unfold Up
    rw [if_pos (by omega)]
    exact congrArg (fun a => U m c a j) (by show n + (r.val - 1) = n + r.val - 1; omega)

/-- Two rows up inside a block that starts at row `n`. -/
theorem up2_eq (n : ℕ) (hn : n % 256 = 0) (r : Fin 256) (j : Fin 512) :
    up2 (Up m c 2 n j) (Up m c 1 n j) (fun r => U m c (n + r.val) j) r = Up m c 2 (n + r.val) j := by
  unfold up2
  by_cases h : r.val = 0
  · rw [if_pos h, h, Nat.add_zero]
  rw [if_neg h]
  by_cases h1 : r.val = 1
  · rw [if_pos h1, h1]
    unfold Up
    have e : n + 1 - 2 = n - 1 := by omega
    by_cases hz : 1 ≤ n % 16384
    · rw [if_pos hz, if_pos (by omega), e]
    · rw [if_neg hz, if_neg (by omega)]
  · rw [if_neg h1]
    unfold Up
    rw [if_pos (by omega)]
    exact congrArg (fun a => U m c a j) (by show n + (r.val - 2) = n + r.val - 2; omega)

/-- The blocks a row block reads: rows of the activations from row `n`, the norm's weights and the projection's. -/
structure Reads (n : ℕ) (a : Vec Ideal S256x2048 .f32) (b : Vec Ideal S1x2048 .f32) (w : Vec Ideal S2048x1536 .bf16) : Prop where
  rows : ∀ r l, (show EReal from a (ix2 r l)) = X m c (n + r.val) l
  norm : ∀ l, (show EReal from b (ix2 0 l)) = NP m c l
  proj : ∀ l k, (show EReal from w (ix2 l k)) = W m c l k

variable {m c} in
theorem Reads.hRow_eq {n a b w} (h : Reads m c n a b w) (r : Fin 256) : hRow a b r = H m c (n + r.val) := by
  unfold hRow H
  exact congrArg₂ nrm (funext fun l => h.rows r l) (funext fun l => h.norm l)

variable {m c} in
theorem Reads.gRow_eq {n a b w} (h : Reads m c n a b w) (j : Fin 512) (r : Fin 256) : gRow a b w j r = U m c (n + r.val) j := by
  unfold gRow U
  rw [h.hRow_eq r]
  exact congrArg (fun w => gu _ w j) (funext fun l => funext fun k => h.proj l k)

variable {m c} in
/-- A row block's result entries are the result's rows from row `n`, the products above the block being the sequence's. -/
theorem Reads.out_eq {n a b w} (h : Reads m c n a b w) (hn : n % 256 = 0) (cw : Vec Ideal S8x512 .f32) (s t : EReal) (r : Fin 256) (j : Fin 512)
    (h0 : (show EReal from cw (ix2 0 j)) = CW m c 0 j) (h1 : (show EReal from cw (ix2 1 j)) = CW m c 1 j) (h2 : (show EReal from cw (ix2 2 j)) = CW m c 2 j)
    (hs : s = Up m c 2 n j) (ht : t = Up m c 1 n j) : blockOut cw s t a b w r j = Yr m c (n + r.val) j := by
  unfold blockOut Yr
  rw [funext fun r => h.gRow_eq j r, h.hRow_eq r, hs, ht, up1_eq m c n hn r j, up2_eq m c n hn r j]
  rw [show (fun l k => w (ix2 l k)) = W m c from funext fun l => funext fun k => h.proj l k]
  have e0 : cw (ix2 0 j) = CW m c 0 j := h0
  have e1 : cw (ix2 1 j) = CW m c 1 j := h1
  have e2 : cw (ix2 2 j) = CW m c 2 j := h2
  rw [e0, e1, e2]

/-- The tile's first row block. -/
theorem reads_first (t : Fin cfg0.N) : Reads m c (t.val * 512) (View.ld (iblk m c 0 t) (Rect.unit ![0, 0] ![256, 2048] inb_S512x2048_S256x2048_0_0))
    (iblk m c 1 t) (iblk m c 2 t) := by
  refine ⟨fun r l => ?_, blk1 m c t, blk2 m c t⟩
  refine Eq.trans ?_ (blk0 m c t ⟨r.val, by omega⟩ l)
  pointwise

/-- The tile's second row block. -/
theorem reads_last (t : Fin cfg0.N) : Reads m c (t.val * 512 + 256) (View.ld (iblk m c 0 t) (Rect.unit ![256, 0] ![256, 2048] inb_S512x2048_S256x2048_256_0))
    (iblk m c 1 t) (iblk m c 2 t) := by
  refine ⟨fun r l => ?_, blk1 m c t, blk2 m c t⟩
  rw [Nat.add_assoc]
  refine Eq.trans ?_ (blk0 m c t ⟨256 + r.val, by omega⟩ l)
  pointwise

/-- The rows a point leaves for the next one: the last eight products of its tile. -/
theorem carry (t : Fin cfg0.N) (a : Fin 8) (j : Fin 512) :
    (show EReal from (outsAt0 m c t.val t.isLt).2 (ix2 a j)) = U m c (t.val * 512 + 256 + (248 + a.val)) j := by
  by_cases ht : t.val % 32 = 0
  · rw [outsAt0_A m c t ht]
    frame_out
    exact (pay1_at _ _ _ a j).trans ((reads_last m c t).gRow_eq j ⟨248 + a.val, by omega⟩)
  · rw [outsAt0_B m c t ht]
    frame_out
    exact (pay1_at _ _ _ a j).trans ((reads_last m c t).gRow_eq j ⟨248 + a.val, by omega⟩)

/-- The product above a tile's second block is one of its first block's last two. -/
theorem above (t : Fin cfg0.N) (d : ℕ) (hd : 1 ≤ d ∧ d ≤ 8) (j : Fin 512) (r : Fin 8) (hr : r.val + d = 8) :
    (show EReal from k0_pay8 (F := Ideal) (k0_pay4 (View.ld (iblk m c 0 t) (Rect.unit ![0, 0] ![256, 2048] inb_S512x2048_S256x2048_0_0)) (iblk m c 1 t) (iblk m c 2 t))
      (k0_pay5 (View.ld (iblk m c 0 t) (Rect.unit ![0, 0] ![256, 2048] inb_S512x2048_S256x2048_0_0)) (iblk m c 1 t) (iblk m c 2 t)) (ix2 r j))
      = Up m c d (t.val * 512 + 256) j := by
  refine ((pay8_at _ _ _ r j).trans ((reads_first m c t).gRow_eq j ⟨248 + r.val, by omega⟩)).trans ?_
  unfold Up
  rw [if_pos (by omega)]
  exact congrArg (fun a => U m c a j) (by show t.val * 512 + (248 + r.val) = t.val * 512 + 256 - d; omega)

/-- The tile's second block of result rows. -/
theorem out_last (t : Fin cfg0.N) (x : Fin 256) (j : Fin 512) :
    (show EReal from k0_pay13 (F := Ideal) (k0_pay3 (iblk m c 3 t)) (iota .tc S256x512 32 [0] iota_S256x512_d0_w32)
      (k0_pay8 (k0_pay4 (View.ld (iblk m c 0 t) (Rect.unit ![0, 0] ![256, 2048] inb_S512x2048_S256x2048_0_0)) (iblk m c 1 t) (iblk m c 2 t))
        (k0_pay5 (View.ld (iblk m c 0 t) (Rect.unit ![0, 0] ![256, 2048] inb_S512x2048_S256x2048_0_0)) (iblk m c 1 t) (iblk m c 2 t)))
      (View.ld (iblk m c 0 t) (Rect.unit ![256, 0] ![256, 2048] inb_S512x2048_S256x2048_256_0)) (k0_pay9 (iblk m c 1 t))
      (k0_pay10 (View.ld (iblk m c 0 t) (Rect.unit ![256, 0] ![256, 2048] inb_S512x2048_S256x2048_256_0)))
      (Scalar.ofBits .f32 0x358637BD#32) (iblk m c 2 t) (ix2 x j)) = Yr m c (t.val * 512 + (256 + x.val)) j := by
  rw [← Nat.add_assoc]
  exact (pay13_at _ _ _ _ _ x j).trans ((reads_last m c t).out_eq (by omega) _ _ _ x j (blk3 m c t 0 j) (blk3 m c t 1 j) (blk3 m c t 2 j)
    (above m c t 2 (by omega) j 6 rfl) (above m c t 1 (by omega) j 7 rfl))

/-- The tile's first block of result rows, given the products above the tile. -/
theorem out_first (t : Fin cfg0.N) (T : Vec Ideal S8x512 .f32) (x : Fin 256) (j : Fin 512) (h6 : (show EReal from T (ix2 6 j)) = Up m c 2 (t.val * 512) j)
    (h7 : (show EReal from T (ix2 7 j)) = Up m c 1 (t.val * 512) j) :
    (show EReal from k0_pay7 (F := Ideal) (k0_pay3 (iblk m c 3 t)) (iota .tc S256x512 32 [0] iota_S256x512_d0_w32) T
      (k0_pay4 (View.ld (iblk m c 0 t) (Rect.unit ![0, 0] ![256, 2048] inb_S512x2048_S256x2048_0_0)) (iblk m c 1 t) (iblk m c 2 t))
      (k0_pay5 (View.ld (iblk m c 0 t) (Rect.unit ![0, 0] ![256, 2048] inb_S512x2048_S256x2048_0_0)) (iblk m c 1 t) (iblk m c 2 t)) (ix2 x j))
      = Yr m c (t.val * 512 + x.val) j :=
  (pay7_at _ _ _ _ _ x j).trans ((reads_first m c t).out_eq (by omega) _ _ _ x j (blk3 m c t 0 j) (blk3 m c t 1 j) (blk3 m c t 2 j) h6 h7)

/-- The output block of a point. -/
theorem out (t : Fin cfg0.N) (a : Fin 512) (j : Fin 512) :
    (show EReal from (outsAt0 m c t.val t.isLt).1 (ix2 a j)) = Yr m c (t.val * 512 + a.val) j := by
  by_cases ht : t.val % 32 = 0
  · rw [outsAt0_A m c t ht]
    frame_out
    canon_tiles x h
    all_goals idx_vars x
    · have hb : 256 + x0.val < 512 := by clear h0; omega
      obtain rfl : a = ⟨256 + x0.val, hb⟩ := Fin.ext h0
      obtain rfl : j = x1 := Fin.ext h1
      exact out_last m c t x0 j
    · have hb : x0.val < 512 := by clear h0; omega
      obtain rfl : a = ⟨x0.val, hb⟩ := Fin.ext h0
      obtain rfl : j = x1 := Fin.ext h1
      refine out_first m c t _ x0 j ?_ ?_
      · unfold Up
        rw [if_neg (by omega)]
        pointwise [k0_pay2]
      · unfold Up
        rw [if_neg (by omega)]
        pointwise [k0_pay2]
  · have hp : t.val - 1 < cfg0.N := lt_of_le_of_lt (Nat.sub_le _ _) t.isLt
    have hc : ∀ (r : Fin 8) (d : ℕ), 1 ≤ d ∧ r.val + d = 8 → (show EReal from (outsAt0 m c (t.val - 1) hp).2 (ix2 r j)) = Up m c d (t.val * 512) j := by
      intro r d hd
      refine (carry m c ⟨t.val - 1, hp⟩ r j).trans ?_
      unfold Up
      rw [if_pos (by omega)]
      exact congrArg (fun a => U m c a j) (by show (t.val - 1) * 512 + 256 + (248 + r.val) = t.val * 512 - d; omega)
    rw [outsAt0_B m c t ht]
    frame_out
    canon_tiles x h
    all_goals idx_vars x
    · have hb : 256 + x0.val < 512 := by clear h0; omega
      obtain rfl : a = ⟨256 + x0.val, hb⟩ := Fin.ext h0
      obtain rfl : j = x1 := Fin.ext h1
      exact out_last m c t x0 j
    · have hb : x0.val < 512 := by clear h0; omega
      obtain rfl : a = ⟨x0.val, hb⟩ := Fin.ext h0
      obtain rfl : j = x1 := Fin.ext h1
      rw [read_unread_whole]
      exact out_first m c t _ x0 j (hc 6 2 ⟨by omega, rfl⟩) (hc 7 1 ⟨by omega, rfl⟩)

/-- The result array. -/
def Y : Vec Ideal S32768x512 .bf16 := fun i => Yr m c (i 0).val (i 1)

theorem arr4 : (dats m 0 c).arrAt 4 cfg0.N = Y m c := by
  refine (dats m 0 c).arrAt_eq_of_covers (4 : Fin 5) _ (by decide +kernel) fun t hf y => ?_
  blk_simp
  rw [after0_4]
  idx_vars y
  refine (out m c t y0 y1).trans ?_
  unfold Y
  blk_simp [idx t]
  refine congrArg (fun k => Yr m c (t.val * 512 + y0.val) k) (Fin.ext ?_)
  blk_simp [idx t]

end Cert.ConvIdeal.Val
-- ==== Proof.ConvPair.lean ====
module

public import proofs.«01_k».proof.Defs
public import proofs.«01_k».proof.Proof.Gen.ConvIdeal
public import proofs.«01_k».proof.Proof.Gen.ConvRefIdeal
public import proofs.«01_k».proof.Proof.ConvValue
public import Idealize.ShloMosaic.Lib.Claim

/-! # The gated short convolution: the kernel's result is the reference's -/

@[expose] public section
set_option maxRecDepth 16384
noncomputable section

open Idealize.ShloMosaic Idealize.ShloMosaic.TcCoe Idealize.SL.Sem
open Idealize.ShloMosaic.Pipeline (Dat)

namespace Cert.ConvPair
open Cert.FfnSpec Cert.ConvSpec

/-- The reference's row at a split row number is the kernel's row. -/
theorem row_eq (m : (ℓ : Loc ConvIdeal.nD ConvIdeal.τ ConvIdeal.sig) → Buf (Elt Ideal) ℓ) (c : Dev ConvIdeal.nD) (b : Fin 2) (s : Fin 16384) (r : ℕ)
    (hr : b.val * 16384 + s.val = r) (h : b.val * 16384 + s.val < 32768) :
    nrm (fun l => m ((c.tc : Thread ConvIdeal.nD ConvIdeal.τ).loc ConvIdeal.main_arg0) (ix2 ⟨b.val * 16384 + s.val, h⟩ l))
      (fun l => m ((c.tc : Thread ConvIdeal.nD ConvIdeal.τ).loc ConvIdeal.main_arg1) (ix1 l)) = ConvIdeal.Val.H m c r := by
  subst hr
  have e : Fin.ofNat 32768 (b.val * 16384 + s.val) = ⟨b.val * 16384 + s.val, h⟩ := Fin.ext (ConvIdeal.Val.ofNat_val _ _ h)
  unfold ConvIdeal.Val.H ConvIdeal.Val.X ConvIdeal.Val.NP
  rw [e]

/-- The reference's gated product at a split row number is the kernel's. -/
theorem gated_eq (m : (ℓ : Loc ConvIdeal.nD ConvIdeal.τ ConvIdeal.sig) → Buf (Elt Ideal) ℓ) (c : Dev ConvIdeal.nD) (b : Fin 2) (s : Fin 16384) (j : Fin 512) (r : ℕ)
    (hr : b.val * 16384 + s.val = r) :
    (show EReal from ConvRefIdeal.Val.gated (F := Ideal) (ConvRefIdeal.Val.projected (m ((c.tc : Thread ConvIdeal.nD ConvIdeal.τ).loc ConvIdeal.main_arg0))
      (m ((c.tc : Thread ConvIdeal.nD ConvIdeal.τ).loc ConvIdeal.main_arg1)) (m ((c.tc : Thread ConvIdeal.nD ConvIdeal.τ).loc ConvIdeal.main_arg2))) (ix3 b s j))
      = ConvIdeal.Val.U m c r j := by
  refine (ConvRefIdeal.Val.gated_at _ _ _ b s j).trans ?_
  unfold ConvIdeal.Val.U
  rw [← row_eq m c b s r hr (by omega)]
  rfl

theorem split_sub (r d : ℕ) (h : d ≤ r % 16384) : r / 16384 * 16384 + (r % 16384 - d) = r - d := by omega

/-- The reference's result at the kernel's argument memory is the kernel's array. -/
theorem ref_eq (m : (ℓ : Loc ConvIdeal.nD ConvIdeal.τ ConvIdeal.sig) → Buf (Elt Ideal) ℓ)
    (m' : (ℓ : Loc ConvRefIdeal.nD ConvRefIdeal.τ ConvRefIdeal.sig) → Buf (Elt Ideal) ℓ) (c : Dev ConvIdeal.nD)
    (h0 : m' ((c.tc : Thread ConvRefIdeal.nD ConvRefIdeal.τ).loc ConvRefIdeal.main_arg0) = m ((c.tc : Thread ConvIdeal.nD ConvIdeal.τ).loc ConvIdeal.main_arg0))
    (h1 : m' ((c.tc : Thread ConvRefIdeal.nD ConvRefIdeal.τ).loc ConvRefIdeal.main_arg1) = m ((c.tc : Thread ConvIdeal.nD ConvIdeal.τ).loc ConvIdeal.main_arg1))
    (h2 : m' ((c.tc : Thread ConvRefIdeal.nD ConvRefIdeal.τ).loc ConvRefIdeal.main_arg2) = m ((c.tc : Thread ConvIdeal.nD ConvIdeal.τ).loc ConvIdeal.main_arg2))
    (h3 : m' ((c.tc : Thread ConvRefIdeal.nD ConvRefIdeal.τ).loc ConvRefIdeal.main_arg3) = m ((c.tc : Thread ConvIdeal.nD ConvIdeal.τ).loc ConvIdeal.main_arg3)) :
    ConvRefIdeal.Value.res_main_v43 m' c = ConvIdeal.Val.Y m c := by
  rw [ConvRefIdeal.Val.res_eq, h0, h1, h2, h3]
  funext i
  idx_vars i
  refine (ConvRefIdeal.Val.taps_at_of 0 ConvRefIdeal.Val.zero_eq _ _ _ i0 i1).trans ?_
  have hr : i0.val / 16384 * 16384 + i0.val % 16384 = i0.val := Nat.div_add_mod' _ _
  show _ = ConvIdeal.Val.Yr m c i0.val i1
  unfold ConvIdeal.Val.Yr tap
  refine congrArg₂ (fun a b : EReal => a * b) ?_ (congrArg₂ (fun a b : EReal => a + b) (congrArg₂ (fun a b : EReal => a + b) ?_ ?_) ?_)
  · refine (ConvRefIdeal.Val.projected_at _ _ _ _ _ _).trans ?_
    exact congrArg (fun h => pr h _) (row_eq m c ⟨i0.val / 16384, by omega⟩ ⟨i0.val % 16384, by omega⟩ i0.val hr (lt_of_eq_of_lt hr i0.isLt))
  · exact congrArg (fun a : EReal => ConvIdeal.Val.CW m c 2 i1 * a) (gated_eq m c ⟨i0.val / 16384, by omega⟩ ⟨i0.val % 16384, by omega⟩ i1 i0.val hr)
  · refine congrArg (fun a : EReal => ConvIdeal.Val.CW m c 1 i1 * a) ?_
    unfold ConvIdeal.Val.Up
    by_cases h : 1 ≤ i0.val % 16384
    · rw [if_pos h, if_pos h]
      exact gated_eq m c ⟨i0.val / 16384, by omega⟩ ⟨i0.val % 16384 - 1, by omega⟩ i1 (i0.val - 1) (split_sub _ _ h)
    · rw [if_neg h, if_neg h]
  · refine congrArg (fun a : EReal => ConvIdeal.Val.CW m c 0 i1 * a) ?_
    unfold ConvIdeal.Val.Up
    by_cases h : 2 ≤ i0.val % 16384
    · rw [if_pos h, if_pos h]
      exact gated_eq m c ⟨i0.val / 16384, by omega⟩ ⟨i0.val % 16384 - 2, by omega⟩ i1 (i0.val - 2) (split_sub _ _ h)
    · rw [if_neg h, if_neg h]

theorem algebraic : Cert.algebraic_ConvIdeal_ConvRefIdeal := by
  pair_intro
  · run_from Cert.ConvIdeal.Gen.run_main m g
  · run_from Cert.ConvRefIdeal.Value.run m' g'
    obtain ⟨h0, h1, h2, h3⟩ := hagree c
    exact (ref_eq m m' c h0 h1 h2 h3).trans (ConvIdeal.Val.arr4 m c).symm

end Cert.ConvPair
-- ==== Proof.lean ====
module

public import proofs.«01_k».proof.Defs
public import proofs.«01_k».proof.Proof.Gen.Attn
public import proofs.«01_k».proof.Proof.AttnFrame
public import proofs.«01_k».proof.Proof.Gen.AttnIdeal
public import proofs.«01_k».proof.Proof.AttnIdealFrame
public import proofs.«01_k».proof.Proof.Gen.AttnRefIdeal
public import proofs.«01_k».proof.Proof.Gen.AttnRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.FfnPair
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.PleRefIdeal
public import proofs.«01_k».proof.Proof.PlePair
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.MergePair
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvRefIdeal
public import proofs.«01_k».proof.Proof.ConvPair
public import Idealize.ShloMosaic.Lib.Claim

/-! # The claims, assembled -/

@[expose] public section

set_option maxRecDepth 16384

noncomputable section

namespace Cert.Proof

open Idealize.ShloMosaic Idealize.ShloMosaic.TcCoe Idealize.SL.Sem

/-- Each named constant is the real number its bit pattern rounds, or the mask's minus infinity. -/
theorem preserves_Attn : Cert.preserves_Attn_AttnIdeal :=
  ⟨IdealRules.named_const.statement Cert.AttnIdeal.κ "slope0" .f32 0xBF8293EE#32 ((-((Real.log 2)⁻¹ * (1 * (Real.sqrt 2))⁻¹) : ℝ) : EReal) rfl,
    IdealRules.named_const.statement Cert.AttnIdeal.κ "mask" .f32 0xF149F2CA#32 ⊥ rfl,
    IdealRules.named_const.statement Cert.AttnIdeal.κ "slope1" .f32 0xBF38AA3B#32 ((-((Real.log 2)⁻¹ * 2⁻¹) : ℝ) : EReal) rfl,
    IdealRules.named_const.statement Cert.AttnIdeal.κ "slope2" .f32 0xBF0293EE#32 ((-((Real.log 2)⁻¹ * (2 * (Real.sqrt 2))⁻¹) : ℝ) : EReal) rfl,
    IdealRules.named_const.statement Cert.AttnIdeal.κ "slope3" .f32 0xBEB8AA3B#32 ((-((Real.log 2)⁻¹ * 4⁻¹) : ℝ) : EReal) rfl,
    IdealRules.named_const.statement Cert.AttnIdeal.κ "slope4" .f32 0xBE8293EE#32 ((-((Real.log 2)⁻¹ * (4 * (Real.sqrt 2))⁻¹) : ℝ) : EReal) rfl,
    IdealRules.named_const.statement Cert.AttnIdeal.κ "slope5" .f32 0xBE38AA3B#32 ((-((Real.log 2)⁻¹ * 8⁻¹) : ℝ) : EReal) rfl,
    IdealRules.named_const.statement Cert.AttnIdeal.κ "slope6" .f32 0xBE0293EE#32 ((-((Real.log 2)⁻¹ * (8 * (Real.sqrt 2))⁻¹) : ℝ) : EReal) rfl,
    IdealRules.named_const.statement Cert.AttnIdeal.κ "slope7" .f32 0xBDB8AA3B#32 ((-((Real.log 2)⁻¹ * 16⁻¹) : ℝ) : EReal) rfl,
    IdealRules.named_const.statement Cert.AttnIdeal.κ "slope8" .f32 0xBD8293EE#32 ((-((Real.log 2)⁻¹ * (16 * (Real.sqrt 2))⁻¹) : ℝ) : EReal) rfl,
    IdealRules.named_const.statement Cert.AttnIdeal.κ "slope9" .f32 0xBD38AA3B#32 ((-((Real.log 2)⁻¹ * 32⁻¹) : ℝ) : EReal) rfl,
    IdealRules.named_const.statement Cert.AttnIdeal.κ "slope10" .f32 0xBD0293EE#32 ((-((Real.log 2)⁻¹ * (32 * (Real.sqrt 2))⁻¹) : ℝ) : EReal) rfl,
    IdealRules.named_const.statement Cert.AttnIdeal.κ "slope11" .f32 0xBCB8AA3B#32 ((-((Real.log 2)⁻¹ * 64⁻¹) : ℝ) : EReal) rfl,
    IdealRules.named_const.statement Cert.AttnIdeal.κ "slope12" .f32 0xBC8293EE#32 ((-((Real.log 2)⁻¹ * (64 * (Real.sqrt 2))⁻¹) : ℝ) : EReal) rfl,
    IdealRules.named_const.statement Cert.AttnIdeal.κ "slope13" .f32 0xBC38AA3B#32 ((-((Real.log 2)⁻¹ * 128⁻¹) : ℝ) : EReal) rfl,
    IdealRules.named_const.statement Cert.AttnIdeal.κ "slope14" .f32 0xBC0293EE#32 ((-((Real.log 2)⁻¹ * (128 * (Real.sqrt 2))⁻¹) : ℝ) : EReal) rfl,
    IdealRules.named_const.statement Cert.AttnIdeal.κ "slope15" .f32 0xBBB8AA3B#32 ((-((Real.log 2)⁻¹ * 256⁻¹) : ℝ) : EReal) rfl,
    IdealRules.named_const.statement Cert.AttnIdeal.κ "qscale" .f32 0x3E38AA3B#32 (((Real.log 2)⁻¹ * 8⁻¹ : ℝ) : EReal) rfl,
    IdealRules.named_const.statement Cert.AttnIdeal.κ "log2e" .f32 0x3FB8AA3B#32 (((Real.log 2)⁻¹ : ℝ) : EReal) rfl⟩

/-- The reference's run leaves its arguments; it declares no semaphore. -/
theorem frame_AttnRefIdeal : Cert.quiescent_AttnRefIdeal := fun m g _ =>
  (θ_run Cert.AttnRefIdeal.defs _ _).mono (fun r h => ⟨fun c => (h c).2, sem_eq_zero_of_no_sems (by decide) r.2⟩)
    (Cert.AttnRefIdeal.Value.run m g)

/-- The reference's run leaves its arguments; it declares no semaphore. -/
theorem frame_FfnRefIdeal : Cert.quiescent_FfnRefIdeal := fun m g _ =>
  (θ_run Cert.FfnRefIdeal.defs _ _).mono (fun r h => ⟨fun c => (h c).2.2.2, sem_eq_zero_of_no_sems (by decide) r.2⟩)
    (Cert.FfnRefIdeal.Value.run m g)

/-- The reference's run leaves its arguments; it declares no semaphore. -/
theorem frame_PleRefIdeal : Cert.quiescent_PleRefIdeal := fun m g _ =>
  (θ_run Cert.PleRefIdeal.defs _ _).mono (fun r h => ⟨fun c => (h c).2, sem_eq_zero_of_no_sems (by decide) r.2⟩)
    (Cert.PleRefIdeal.Value.run m g)

/-- The reference's run leaves its arguments; it declares no semaphore. -/
theorem frame_MergeRefIdeal : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run m g)

/-- The reference's run leaves its arguments; it declares no semaphore. -/
theorem frame_ConvRefIdeal : Cert.quiescent_ConvRefIdeal := fun m g _ =>
  (θ_run Cert.ConvRefIdeal.defs _ _).mono (fun r h => ⟨fun c => (h c).2, sem_eq_zero_of_no_sems (by decide) r.2⟩)
    (Cert.ConvRefIdeal.Value.run m g)

theorem claim : Cert.Claim :=
  ⟨Cert.Attn.Gen.facts, Cert.AttnIdeal.Gen.facts, Cert.AttnRefIdeal.Gen.facts,
    Cert.Ffn.Gen.facts, Cert.FfnIdeal.Gen.facts, Cert.FfnRefIdeal.Gen.facts,
    Cert.Ple.Gen.facts, Cert.PleIdeal.Gen.facts, Cert.PleRefIdeal.Gen.facts,
    Cert.Merge.Gen.facts, Cert.MergeIdeal.Gen.facts, Cert.MergeRefIdeal.Gen.facts,
    Cert.Conv.Gen.facts, Cert.ConvIdeal.Gen.facts, Cert.ConvRefIdeal.Gen.facts,
    fun m g _ => Cert.Attn.Body.quiet m g, fun m g _ => Cert.AttnIdeal.Body.quiet m g, frame_AttnRefIdeal,
    fun m g _ => Cert.Ffn.Gen.frame m g, fun m g _ => Cert.FfnIdeal.Gen.frame m g, frame_FfnRefIdeal,
    fun m g _ => Cert.Ple.Gen.frame m g, fun m g _ => Cert.PleIdeal.Gen.frame m g, frame_PleRefIdeal,
    fun m g _ => Cert.Merge.Gen.frame m g, fun m g _ => Cert.MergeIdeal.Gen.frame m g, frame_MergeRefIdeal,
    fun m g _ => Cert.Conv.Gen.frame m g, fun m g _ => Cert.ConvIdeal.Gen.frame m g, frame_ConvRefIdeal,
    preserves_Attn,
    trivial, Cert.FfnPair.algebraic,
    trivial, Cert.PlePair.algebraic,
    trivial, Cert.MergePair.algebraic,
    trivial, Cert.ConvPair.algebraic⟩

end Cert.Proof

end
